-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_finite [hPre_tables_finite : Cert.Pre_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_finite [hPre_tables_finite : Cert.Pre_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_KernelSine (m : (ℓ : Loc Cert.KernelSine.nD Cert.KernelSine.τ Cert.KernelSine.sig) → Buf (Elt Bits) ℓ) : Prop :=
  True

def Pre_KernelSineIdeal (m : (ℓ : Loc Cert.KernelSineIdeal.nD Cert.KernelSineIdeal.τ Cert.KernelSineIdeal.sig) → Buf (Elt Ideal) ℓ) : Prop :=
  True

def Pre_KernelSineIdeal_tables_finite [hPre_tables_finite : Cert.Pre_tables_finite.Facts] (m : (ℓ : Loc Cert.KernelSineIdeal.nD Cert.KernelSineIdeal.τ Cert.KernelSineIdeal.sig) → Buf (Elt Ideal) ℓ) : Prop :=
  ∀ c : Dev Cert.KernelSineIdeal.nD,
    (Cert.Pre_tables_finite.fn (F := Ideal) (m ((c.tc : Thread Cert.KernelSineIdeal.nD Cert.KernelSineIdeal.τ).loc Cert.KernelSineIdeal.main_arg0)) (m ((c.tc : Thread Cert.KernelSineIdeal.nD Cert.KernelSineIdeal.τ).loc Cert.KernelSineIdeal.main_arg1)) (m ((c.tc : Thread Cert.KernelSineIdeal.nD Cert.KernelSineIdeal.τ).loc Cert.KernelSineIdeal.main_arg2)) (m ((c.tc : Thread Cert.KernelSineIdeal.nD Cert.KernelSineIdeal.τ).loc Cert.KernelSineIdeal.main_arg3))).1 = (fun _ => 1#1)
    ∧ (Cert.Pre_tables_finite.fn (F := Ideal) (m ((c.tc : Thread Cert.KernelSineIdeal.nD Cert.KernelSineIdeal.τ).loc Cert.KernelSineIdeal.main_arg0)) (m ((c.tc : Thread Cert.KernelSineIdeal.nD Cert.KernelSineIdeal.τ).loc Cert.KernelSineIdeal.main_arg1)) (m ((c.tc : Thread Cert.KernelSineIdeal.nD Cert.KernelSineIdeal.τ).loc Cert.KernelSineIdeal.main_arg2)) (m ((c.tc : Thread Cert.KernelSineIdeal.nD Cert.KernelSineIdeal.τ).loc Cert.KernelSineIdeal.main_arg3))).2.1 = (fun _ => 1#1)
    ∧ (Cert.Pre_tables_finite.fn (F := Ideal) (m ((c.tc : Thread Cert.KernelSineIdeal.nD Cert.KernelSineIdeal.τ).loc Cert.KernelSineIdeal.main_arg0)) (m ((c.tc : Thread Cert.KernelSineIdeal.nD Cert.KernelSineIdeal.τ).loc Cert.KernelSineIdeal.main_arg1)) (m ((c.tc : Thread Cert.KernelSineIdeal.nD Cert.KernelSineIdeal.τ).loc Cert.KernelSineIdeal.main_arg2)) (m ((c.tc : Thread Cert.KernelSineIdeal.nD Cert.KernelSineIdeal.τ).loc Cert.KernelSineIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tables_finite [hKernelIdeal : Cert.KernelIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tables_finite [hReferenceIdeal : Cert.ReferenceIdeal.Facts] [hPre_tables_finite : Cert.Pre_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelSine [hKernelSine : Cert.KernelSine.Facts] : Prop :=
  ∀ (m : (ℓ : Loc Cert.KernelSine.nD Cert.KernelSine.τ Cert.KernelSine.sig) → Buf (Elt Bits) ℓ) (g : Dev Cert.KernelSine.nD → PrngReg), Pre_KernelSine m →
    θ_run (Cert.KernelSine.defs (F := Bits)) (onTc (τ := Cert.KernelSine.τ) (Cert.KernelSine.main (F := Bits))) ⟨m, fun _ => 0, g⟩ (fun r => (∀ c : Dev Cert.KernelSine.nD,
      r.2.mem ((c.tc : Thread Cert.KernelSine.nD Cert.KernelSine.τ).loc Cert.KernelSine.main_arg0) = m ((c.tc : Thread Cert.KernelSine.nD Cert.KernelSine.τ).loc Cert.KernelSine.main_arg0)
      ∧ r.2.mem ((c.tc : Thread Cert.KernelSine.nD Cert.KernelSine.τ).loc Cert.KernelSine.main_arg1) = m ((c.tc : Thread Cert.KernelSine.nD Cert.KernelSine.τ).loc Cert.KernelSine.main_arg1)
      ∧ r.2.mem ((c.tc : Thread Cert.KernelSine.nD Cert.KernelSine.τ).loc Cert.KernelSine.main_arg2) = m ((c.tc : Thread Cert.KernelSine.nD Cert.KernelSine.τ).loc Cert.KernelSine.main_arg2)
      ∧ r.2.mem ((c.tc : Thread Cert.KernelSine.nD Cert.KernelSine.τ).loc Cert.KernelSine.main_arg3) = m ((c.tc : Thread Cert.KernelSine.nD Cert.KernelSine.τ).loc Cert.KernelSine.main_arg3))
      ∧ r.2.sem = fun _ => 0)

def quiescent_KernelSineIdeal [hKernelSineIdeal : Cert.KernelSineIdeal.Facts] : Prop :=
  ∀ (m : (ℓ : Loc Cert.KernelSineIdeal.nD Cert.KernelSineIdeal.τ Cert.KernelSineIdeal.sig) → Buf (Elt Ideal) ℓ) (g : Dev Cert.KernelSineIdeal.nD → PrngReg), Pre_KernelSineIdeal m →
    θ_run (Cert.KernelSineIdeal.defs (F := Ideal)) (onTc (τ := Cert.KernelSineIdeal.τ) (Cert.KernelSineIdeal.main (F := Ideal))) ⟨m, fun _ => 0, g⟩ (fun r => (∀ c : Dev Cert.KernelSineIdeal.nD,
      r.2.mem ((c.tc : Thread Cert.KernelSineIdeal.nD Cert.KernelSineIdeal.τ).loc Cert.KernelSineIdeal.main_arg0) = m ((c.tc : Thread Cert.KernelSineIdeal.nD Cert.KernelSineIdeal.τ).loc Cert.KernelSineIdeal.main_arg0)
      ∧ r.2.mem ((c.tc : Thread Cert.KernelSineIdeal.nD Cert.KernelSineIdeal.τ).loc Cert.KernelSineIdeal.main_arg1) = m ((c.tc : Thread Cert.KernelSineIdeal.nD Cert.KernelSineIdeal.τ).loc Cert.KernelSineIdeal.main_arg1)
      ∧ r.2.mem ((c.tc : Thread Cert.KernelSineIdeal.nD Cert.KernelSineIdeal.τ).loc Cert.KernelSineIdeal.main_arg2) = m ((c.tc : Thread Cert.KernelSineIdeal.nD Cert.KernelSineIdeal.τ).loc Cert.KernelSineIdeal.main_arg2)
      ∧ r.2.mem ((c.tc : Thread Cert.KernelSineIdeal.nD Cert.KernelSineIdeal.τ).loc Cert.KernelSineIdeal.main_arg3) = m ((c.tc : Thread Cert.KernelSineIdeal.nD Cert.KernelSineIdeal.τ).loc Cert.KernelSineIdeal.main_arg3))
      ∧ r.2.sem = fun _ => 0)

def quiescent_KernelSineIdeal_pre_tables_finite [hKernelSineIdeal : Cert.KernelSineIdeal.Facts] [hPre_tables_finite : Cert.Pre_tables_finite.Facts] : Prop :=
  ∀ (m : (ℓ : Loc Cert.KernelSineIdeal.nD Cert.KernelSineIdeal.τ Cert.KernelSineIdeal.sig) → Buf (Elt Ideal) ℓ) (g : Dev Cert.KernelSineIdeal.nD → PrngReg), Pre_KernelSineIdeal_tables_finite m →
    θ_run (Cert.KernelSineIdeal.defs (F := Ideal)) (onTc (τ := Cert.KernelSineIdeal.τ) (Cert.KernelSineIdeal.main (F := Ideal))) ⟨m, fun _ => 0, g⟩ (fun r => (∀ c : Dev Cert.KernelSineIdeal.nD,
      r.2.mem ((c.tc : Thread Cert.KernelSineIdeal.nD Cert.KernelSineIdeal.τ).loc Cert.KernelSineIdeal.main_arg0) = m ((c.tc : Thread Cert.KernelSineIdeal.nD Cert.KernelSineIdeal.τ).loc Cert.KernelSineIdeal.main_arg0)
      ∧ r.2.mem ((c.tc : Thread Cert.KernelSineIdeal.nD Cert.KernelSineIdeal.τ).loc Cert.KernelSineIdeal.main_arg1) = m ((c.tc : Thread Cert.KernelSineIdeal.nD Cert.KernelSineIdeal.τ).loc Cert.KernelSineIdeal.main_arg1)
      ∧ r.2.mem ((c.tc : Thread Cert.KernelSineIdeal.nD Cert.KernelSineIdeal.τ).loc Cert.KernelSineIdeal.main_arg2) = m ((c.tc : Thread Cert.KernelSineIdeal.nD Cert.KernelSineIdeal.τ).loc Cert.KernelSineIdeal.main_arg2)
      ∧ r.2.mem ((c.tc : Thread Cert.KernelSineIdeal.nD Cert.KernelSineIdeal.τ).loc Cert.KernelSineIdeal.main_arg3) = m ((c.tc : Thread Cert.KernelSineIdeal.nD Cert.KernelSineIdeal.τ).loc Cert.KernelSineIdeal.main_arg3))
      ∧ r.2.sem = fun _ => 0)

def preserves_Kernel_KernelIdeal : Prop :=
  IdealRules.named_const.Statement Cert.KernelIdeal.κ "neg_log_base_div_half" .f32 0xBE135D8E#32 (((-(Real.log 10000)) * 64⁻¹ : ℝ) : EReal)
  ∧ IdealRules.named_const.Statement Cert.KernelIdeal.κ "neg_log_two_pi" .f32 0xBFEB3F8E#32 ((-(Real.log (2 * Real.pi)) : ℝ) : EReal)
  ∧ IdealRules.named_const.Statement Cert.KernelIdeal.κ "sixth" .f32 0x3E2AAAAB#32 ((1 / 6 : ℝ) : EReal)

def algebraic_KernelIdeal_ReferenceIdeal_on_sar_positions_pre_tables_finite [hKernelIdeal : Cert.KernelIdeal.Facts] [hReferenceIdeal : Cert.ReferenceIdeal.Facts] [hPre_tables_finite : Cert.Pre_tables_finite.Facts] [hOn_sar_positions : Cert.On_sar_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16384, 50, 128]⟩ : Shape).Idx, (Cert.On_sar_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v4) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16384, 50, 128]⟩ : Shape).Idx, (Cert.On_sar_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v65) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_within_tolerance_pre_no_overflow [hKernelIdeal : Cert.KernelIdeal.Facts] [hPre_no_overflow : Cert.Pre_no_overflow.Facts] [hPost_within_tolerance : Cert.Post_within_tolerance.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_within_tolerance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v4))) = (fun _ => 1#1))

def preserves_KernelSine_KernelSineIdeal : Prop :=
  IdealRules.named_const.Statement Cert.KernelSineIdeal.κ "neg_log_base_div_half" .f32 0xBE135D8E#32 (((-(Real.log 10000)) * 64⁻¹ : ℝ) : EReal)
  ∧ IdealRules.named_const.Statement Cert.KernelSineIdeal.κ "neg_log_two_pi" .f32 0xBFEB3F8E#32 ((-(Real.log (2 * Real.pi)) : ℝ) : EReal)
  ∧ IdealRules.named_const.Statement Cert.KernelSineIdeal.κ "two_pi" .f32 0x40C90FDB#32 ((2 * Real.pi : ℝ) : EReal)
  ∧ IdealRules.named_const.Statement Cert.KernelSineIdeal.κ "sixth" .f32 0x3E2AAAAB#32 ((1 / 6 : ℝ) : EReal)

def algebraic_KernelSineIdeal_ReferenceIdeal_pre_tables_finite [hKernelSineIdeal : Cert.KernelSineIdeal.Facts] [hReferenceIdeal : Cert.ReferenceIdeal.Facts] [hPre_tables_finite : Cert.Pre_tables_finite.Facts] : Prop :=
  ∀ (m : (ℓ : Loc Cert.KernelSineIdeal.nD Cert.KernelSineIdeal.τ Cert.KernelSineIdeal.sig) → Buf (Elt Ideal) ℓ) (g : Dev Cert.KernelSineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelSineIdeal_tables_finite m →
    (∀ c : Dev Cert.KernelSineIdeal.nD,
      m' ((c.tc : Thread Cert.ReferenceIdeal.nD Cert.ReferenceIdeal.τ).loc Cert.ReferenceIdeal.main_arg0) = m ((c.tc : Thread Cert.KernelSineIdeal.nD Cert.KernelSineIdeal.τ).loc Cert.KernelSineIdeal.main_arg0)
      ∧ m' ((c.tc : Thread Cert.ReferenceIdeal.nD Cert.ReferenceIdeal.τ).loc Cert.ReferenceIdeal.main_arg1) = m ((c.tc : Thread Cert.KernelSineIdeal.nD Cert.KernelSineIdeal.τ).loc Cert.KernelSineIdeal.main_arg1)
      ∧ m' ((c.tc : Thread Cert.ReferenceIdeal.nD Cert.ReferenceIdeal.τ).loc Cert.ReferenceIdeal.main_arg2) = m ((c.tc : Thread Cert.KernelSineIdeal.nD Cert.KernelSineIdeal.τ).loc Cert.KernelSineIdeal.main_arg2)
      ∧ m' ((c.tc : Thread Cert.ReferenceIdeal.nD Cert.ReferenceIdeal.τ).loc Cert.ReferenceIdeal.main_arg3) = m ((c.tc : Thread Cert.KernelSineIdeal.nD Cert.KernelSineIdeal.τ).loc Cert.KernelSineIdeal.main_arg3)) →
    ∃ (v0 : (c : Dev Cert.KernelSineIdeal.nD) → Buf (Elt Ideal) ((c.tc : Thread Cert.KernelSineIdeal.nD Cert.KernelSineIdeal.τ).loc Cert.KernelSineIdeal.main_v4)),
      θ_run (Cert.KernelSineIdeal.defs (F := Ideal)) (onTc (τ := Cert.KernelSineIdeal.τ) (Cert.KernelSineIdeal.main (F := Ideal))) ⟨m, fun _ => 0, g⟩ (fun r => ∀ c : Dev Cert.KernelSineIdeal.nD,
          r.2.mem ((c.tc : Thread Cert.KernelSineIdeal.nD Cert.KernelSineIdeal.τ).loc Cert.KernelSineIdeal.main_v4) = v0 c
          ∧ r.2.mem ((c.tc : Thread Cert.KernelSineIdeal.nD Cert.KernelSineIdeal.τ).loc Cert.KernelSineIdeal.main_arg0) = m ((c.tc : Thread Cert.KernelSineIdeal.nD Cert.KernelSineIdeal.τ).loc Cert.KernelSineIdeal.main_arg0)
          ∧ r.2.mem ((c.tc : Thread Cert.KernelSineIdeal.nD Cert.KernelSineIdeal.τ).loc Cert.KernelSineIdeal.main_arg1) = m ((c.tc : Thread Cert.KernelSineIdeal.nD Cert.KernelSineIdeal.τ).loc Cert.KernelSineIdeal.main_arg1)
          ∧ r.2.mem ((c.tc : Thread Cert.KernelSineIdeal.nD Cert.KernelSineIdeal.τ).loc Cert.KernelSineIdeal.main_arg2) = m ((c.tc : Thread Cert.KernelSineIdeal.nD Cert.KernelSineIdeal.τ).loc Cert.KernelSineIdeal.main_arg2)
          ∧ r.2.mem ((c.tc : Thread Cert.KernelSineIdeal.nD Cert.KernelSineIdeal.τ).loc Cert.KernelSineIdeal.main_arg3) = m ((c.tc : Thread Cert.KernelSineIdeal.nD Cert.KernelSineIdeal.τ).loc Cert.KernelSineIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hKernelSine : Cert.KernelSine.Facts) (hKernelSineIdeal : Cert.KernelSineIdeal.Facts) (hPre_tables_finite : Cert.Pre_tables_finite.Facts) (hPre_no_overflow : Cert.Pre_no_overflow.Facts) (hPost_within_tolerance : Cert.Post_within_tolerance.Facts) (hOn_sar_positions : Cert.On_sar_positions.Facts),
    quiescent_Kernel (hKernel := hKernel)
    ∧ quiescent_KernelIdeal (hKernelIdeal := hKernelIdeal)
    ∧ quiescent_KernelIdeal_pre_tables_finite (hKernelIdeal := hKernelIdeal) (hPre_tables_finite := hPre_tables_finite)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_tables_finite (hReferenceIdeal := hReferenceIdeal) (hPre_tables_finite := hPre_tables_finite)
    ∧ quiescent_KernelSine (hKernelSine := hKernelSine)
    ∧ quiescent_KernelSineIdeal (hKernelSineIdeal := hKernelSineIdeal)
    ∧ quiescent_KernelSineIdeal_pre_tables_finite (hKernelSineIdeal := hKernelSineIdeal) (hPre_tables_finite := hPre_tables_finite)
    ∧ preserves_Kernel_KernelIdeal
    ∧ algebraic_KernelIdeal_ReferenceIdeal_on_sar_positions_pre_tables_finite (hKernelIdeal := hKernelIdeal) (hReferenceIdeal := hReferenceIdeal) (hPre_tables_finite := hPre_tables_finite) (hOn_sar_positions := hOn_sar_positions)
    ∧ holds_KernelIdeal_within_tolerance_pre_no_overflow (hKernelIdeal := hKernelIdeal) (hPre_no_overflow := hPre_no_overflow) (hPost_within_tolerance := hPost_within_tolerance)
    ∧ preserves_KernelSine_KernelSineIdeal
    ∧ algebraic_KernelSineIdeal_ReferenceIdeal_pre_tables_finite (hKernelSineIdeal := hKernelSineIdeal) (hReferenceIdeal := hReferenceIdeal) (hPre_tables_finite := hPre_tables_finite)
-- ==== On_sar_positions.lean ====
abbrev S16384x50 : Shape := ⟨2, ![16384, 50]⟩
abbrev S2x42 : Shape := ⟨2, ![2, 42]⟩
abbrev S2x44 : Shape := ⟨2, ![2, 44]⟩
abbrev S_ : Shape := ⟨0, ![]⟩
abbrev S16384x50x1 : Shape := ⟨3, ![16384, 50, 1]⟩
abbrev S16384x50x128 : Shape := ⟨3, ![16384, 50, 128]⟩

class Facts : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S16384x50x1_S16384x50x128_0_1_2 : S16384x50x1.BroadcastsInDim S16384x50x128 (![0, 1, 2] : Fin 3 → Fin S16384x50x128.rank)

variable [Facts]

def fn {F : FTy → Type} [FloatOps F] (main_arg0 : FVec F S16384x50 .f32) (main_arg1 : FVec F S2x42 .f32) (main_arg2 : FVec F S2x42 .f32) (main_arg3 : FVec F S2x44 .f32) : IVec S16384x50x128 1 :=
  let main_cst : FVec F S_ .f32 := constant S_ .f32 0x00000000#32
  let main_v0 : FVec F S16384x50 .f32 := broadcastInDim S16384x50 ![] bcast_S_S16384x50 main_cst
  let main_v1 : IVec S16384x50 1 := cmpf .olt main_arg0 main_v0
  let main_v2 : IVec S16384x50x1 1 := broadcastInDim S16384x50x1 ![0, 1] bcast_S16384x50_S16384x50x1_0_1 main_v1
  let main_v3 : IVec S16384x50x128 1 := broadcastInDim S16384x50x128 ![0, 1, 2] bcast_S16384x50x1_S16384x50x128_0_1_2 main_v2
  main_v3
-- ==== Post_within_tolerance.lean ====
abbrev S16384x50 : Shape := ⟨2, ![16384, 50]⟩
abbrev S2x42 : Shape := ⟨2, ![2, 42]⟩
abbrev S2x44 : Shape := ⟨2, ![2, 44]⟩
abbrev S16384x50x128 : Shape := ⟨3, ![16384, 50, 128]⟩
abbrev S_ : Shape := ⟨0, ![]⟩
abbrev S64 : Shape := ⟨1, ![64]⟩
abbrev S819200 : Shape := ⟨1, ![819200]⟩
abbrev S819200x1 : Shape := ⟨2, ![819200, 1]⟩
abbrev S1x64 : Shape := ⟨2, ![1, 64]⟩
abbrev S819200x64 : Shape := ⟨2, ![819200, 64]⟩
abbrev S819200x128 : Shape := ⟨2, ![819200, 128]⟩
abbrev S1x42 : Shape := ⟨2, ![1, 42]⟩
abbrev S1x1x1x42 : Shape := ⟨4, ![1, 1, 1, 42]⟩
abbrev S2x1x1x42 : Shape := ⟨4, ![2, 1, 1, 42]⟩
abbrev S4x42 : Shape := ⟨2, ![4, 42]⟩
abbrev S1x4x1x42 : Shape := ⟨4, ![1, 4, 1, 42]⟩
abbrev S3x4x1x42 : Shape := ⟨4, ![3, 4, 1, 42]⟩
abbrev S12x42 : Shape := ⟨2, ![12, 42]⟩
abbrev S44 : Shape := ⟨1, ![44]⟩
abbrev S1x44 : Shape := ⟨2, ![1, 44]⟩
abbrev S3x44 : Shape := ⟨2, ![3, 44]⟩
abbrev S3x4x44 : Shape := ⟨3, ![3, 4, 44]⟩
abbrev S12x44 : Shape := ⟨2, ![12, 44]⟩
abbrev S12x128 : Shape := ⟨2, ![12, 128]⟩
abbrev S16384x50x1 : Shape := ⟨3, ![16384, 50, 1]⟩
abbrev S1 : Shape := ⟨1, ![1]⟩
abbrev S1x1x1 : Shape := ⟨3, ![1, 1, 1]⟩

class Facts : Prop where
  bcast_S_S16384x50 : S_.BroadcastsInDim S16384x50 (![] : Fin 0 → Fin S16384x50.rank)
  bcast_S_S64 : S_.BroadcastsInDim S64 (![] : Fin 0 → Fin S64.rank)
  shapeCasts_S16384x50_S819200 : S16384x50.ShapeCasts S819200
  bcast_S819200_S819200x1_0 : S819200.BroadcastsInDim S819200x1 (![0] : Fin 1 → Fin S819200x1.rank)
  bcast_S64_S1x64_1 : S64.BroadcastsInDim S1x64 (![1] : Fin 1 → Fin S1x64.rank)
  bcast_S819200x1_S819200x64_0_1 : S819200x1.BroadcastsInDim S819200x64 (![0, 1] : Fin 2 → Fin S819200x64.rank)
  bcast_S1x64_S819200x64_0_1 : S1x64.BroadcastsInDim S819200x64 (![0, 1] : Fin 2 → Fin S819200x64.rank)
  concatenates_S819200x64_S819200x64_S819200x128_d1 : Shape.Concatenates [S819200x64, S819200x64] S819200x128 1
  shapeCasts_S819200x128_S16384x50x128 : S819200x128.ShapeCasts S16384x50x128
  slices_S2x42_S1x42_0_0 : S2x42.Slices ![0, 0] S1x42
  shapeCasts_S1x42_S1x1x1x42 : S1x42.ShapeCasts S1x1x1x42
  bcast_S1x1x1x42_S2x1x1x42_0_1_2_3 : S1x1x1x42.BroadcastsInDim S2x1x1x42 (![0, 1, 2, 3] : Fin 4 → Fin S2x1x1x42.rank)
  shapeCasts_S2x1x1x42_S2x42 : S2x1x1x42.ShapeCasts S2x42
  slices_S2x42_S1x42_1_0 : S2x42.Slices ![1, 0] S1x42
  concatenates_S2x42_S2x42_S4x42_d0 : Shape.Concatenates [S2x42, S2x42] S4x42 0
  shapeCasts_S4x42_S1x4x1x42 : S4x42.ShapeCasts S1x4x1x42
  bcast_S1x4x1x42_S3x4x1x42_0_1_2_3 : S1x4x1x42.BroadcastsInDim S3x4x1x42 (![0, 1, 2, 3] : Fin 4 → Fin S3x4x1x42.rank)
  shapeCasts_S3x4x1x42_S12x42 : S3x4x1x42.ShapeCasts S12x42
  concatenates_S1x42_S2x42_S1x42_S4x42_d0 : Shape.Concatenates [S1x42, S2x42, S1x42] S4x42 0
  reducesTo_S2x44_S44_d0 : S2x44.ReducesTo [0] S44
  h_S_ : 0 < S_.numel
  bcast_S_S44 : S_.BroadcastsInDim S44 (![] : Fin 0 → Fin S44.rank)
  slices_S2x44_S1x44_0_0 : S2x44.Slices ![0, 0] S1x44
  shapeCasts_S1x44_S44 : S1x44.ShapeCasts S44
  slices_S2x44_S1x44_1_0 : S2x44.Slices ![1, 0] S1x44
  bcast_S44_S1x44_1 : S44.BroadcastsInDim S1x44 (![1] : Fin 1 → Fin S1x44.rank)
  concatenates_S1x44_S1x44_S1x44_S3x44_d0 : Shape.Concatenates [S1x44, S1x44, S1x44] S3x44 0
  bcast_S3x44_S3x4x44_0_2 : S3x44.BroadcastsInDim S3x4x44 (![0, 2] : Fin 2 → Fin S3x4x44.rank)
  shapeCasts_S3x4x44_S12x44 : S3x4x44.ShapeCasts S12x44
  concatenates_S12x42_S12x42_S12x44_S12x128_d1 : Shape.Concatenates [S12x42, S12x42, S12x44] S12x128 1
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  bcast_S16384x50x1_S16384x50x128_0_1_2 : S16384x50x1.BroadcastsInDim S16384x50x128 (![0, 1, 2] : Fin 3 → Fin S16384x50x128.rank)
  gather_S12x128_S16384x50x1_S16384x50x128_2_0_n_n_0_2_1128_wf : GatherDims.WF S12x128 S16384x50x1 S16384x50x128 [2] [0] [] [0] [] 2 ![1, 128]

variable [Facts]

def gather_S12x128_S16384x50x1_S16384x50x128_2_0_n_n_0_2_1128 : GatherDims S12x128 S16384x50x1 S16384x50x128 where
  offsetDims := [2]
  collapsedSliceDims := [0]
  operandBatchingDims := []
  startIndicesBatchingDims := []
  startIndexMap := [0]
  indexVectorDim := 2
  sliceSizes := ![1, 128]
  wf := gather_S12x128_S16384x50x1_S16384x50x128_2_0_n_n_0_2_1128_wf
def fn_where {F : FTy → Type} [FloatOps F] (arg0 : IVec S_ 1) (arg1 : FVec F S16384x50 .f32) (arg2 : FVec F S16384x50 .f32) : FVec F S16384x50 .f32 :=
  let v0 : FVec F S16384x50 .f32 := (fun p a b => select (broadcastInDim S16384x50 ![] bcast_S_S16384x50 p) a b) arg0 arg1 arg2
  v0

def fn_floor_divide_part1 {F : FTy → Type} [FloatOps F] (v20 : FVec F S16384x50 .f32) : FVec F S16384x50 .f32 :=
  let v21 : FVec F S16384x50 .f32 := Host.round v20
  v21

def fn_floor_divide {F : FTy → Type} [FloatOps F] (arg0 : FVec F S16384x50 .f32) (arg1 : FVec F S_ .f32) : FVec F S16384x50 .f32 :=
  let v0 : FVec F S_ .f32 := id arg1
  let v1 : FVec F S16384x50 .f32 := broadcastInDim S16384x50 ![] bcast_S_S16384x50 v0
  let v2 : FVec F S16384x50 .f32 := Host.remf arg0 v1
  let cst : FVec F S_ .f32 := constant S_ .f32 0x00000000#32
  let v3 : IVec S_ 1 := cmpf .oeq v0 cst
  let v4 : FVec F S16384x50 .f32 := subf arg0 v2
  let v5 : FVec F S16384x50 .f32 := fn_where (F := F) v3 arg0 v4
  let v6 : FVec F S16384x50 .f32 := broadcastInDim S16384x50 ![] bcast_S_S16384x50 v0
  let v7 : FVec F S16384x50 .f32 := Host.divf v5 v6
  let cst_0 : FVec F S_ .f32 := constant S_ .f32 0x00000000#32
  let v8 : FVec F S16384x50 .f32 := broadcastInDim S16384x50 ![] bcast_S_S16384x50 cst_0
  let v9 : IVec S16384x50 1 := cmpf .une v2 v8
  let v10 : FVec F S_ .f32 := Host.sign v0
  let v11 : FVec F S16384x50 .f32 := Host.sign v2
  let v12 : FVec F S16384x50 .f32 := broadcastInDim S16384x50 ![] bcast_S_S16384x50 v10
  let v13 : IVec S16384x50 1 := cmpf .une v12 v11
  let v14 : IVec S16384x50 1 := andi v9 v13
  let v15 : FVec F S16384x50 .f32 := broadcastInDim S16384x50 ![] bcast_S_S16384x50 v0
  let v16 : FVec F S16384x50 .f32 := addf v2 v15
  let v17 : FVec F S16384x50 .f32 := select v14 v16 v2
  let cst_1 : FVec F S_ .f32 := constant S_ .f32 0x3F800000#32
  let v18 : FVec F S16384x50 .f32 := broadcastInDim S16384x50 ![] bcast_S_S16384x50 cst_1
  let v19 : FVec F S16384x50 .f32 := subf v7 v18
  let v20 : FVec F S16384x50 .f32 := select v14 v19 v7
  fn_floor_divide_part1 (F := F) v20

def fn_where_0 {F : FTy → Type} [FloatOps F] (arg0 : IVec S16384x50 1) (arg1 : FVec F S16384x50 .f32) (arg2 : FVec F S16384x50 .f32) : FVec F S16384x50 .f32 :=
  let v0 : FVec F S16384x50 .f32 := select arg0 arg1 arg2
  v0

def fn_clip {F : FTy → Type} [FloatOps F] (arg0 : IVec S16384x50 32) (arg1 : IVec S_ 32) (arg2 : IVec S_ 32) : IVec S16384x50 32 :=
  let v0 : IVec S_ 32 := id arg1
  let v1 : IVec S16384x50 32 := broadcastInDim S16384x50 ![] bcast_S_S16384x50 v0
  let v2 : IVec S16384x50 32 := maxsi v1 arg0
  let v3 : IVec S_ 32 := id arg2
  let v4 : IVec S16384x50 32 := broadcastInDim S16384x50 ![] bcast_S_S16384x50 v3
  let v5 : IVec S16384x50 32 := minsi v4 v2
  v5

def fn_where_1 {F : FTy → Type} [FloatOps F] (arg0 : IVec S16384x50 1) (arg1 : IVec S16384x50 32) (arg2 : IVec S16384x50 32) : IVec S16384x50 32 :=
  let v0 : IVec S16384x50 32 := select arg0 arg1 arg2
  v0

def fn_take {F : FTy → Type} [FloatOps F] (arg0 : FVec F S12x128 .f32) (arg1 : IVec S16384x50 32) : FVec F S16384x50x128 .f32 :=
  let c : IVec S_ 32 := constantI S_ 32 0#32
  let v0 : IVec S16384x50 32 := broadcastInDim S16384x50 ![] bcast_S_S16384x50 c
  let v1 : IVec S16384x50 1 := cmpi .slt arg1 v0
  let c_0 : IVec S_ 32 := constantI S_ 32 12#32
  let v2 : IVec S16384x50 32 := broadcastInDim S16384x50 ![] bcast_S_S16384x50 c_0
  let v3 : IVec S16384x50 32 := addi arg1 v2
  let v4 : IVec S16384x50 32 := fn_where_1 (F := F) v1 v3 arg1
  let v5 : IVec S16384x50x1 32 := broadcastInDim S16384x50x1 ![0, 1] bcast_S16384x50_S16384x50x1_0_1 v4
  let c_1 : IVec S1 32 := constantI S1 32 11#32
  let c_2 : IVec S_ 32 := constantI S_ 32 0#32
  let v6 : IVec S16384x50x1 32 := broadcastInDim S16384x50x1 ![] bcast_S_S16384x50x1 c_2
  let v7 : IVec S16384x50x1 1 := cmpi .sge v5 v6
  let v8 : IVec S1x1x1 32 := broadcastInDim S1x1x1 ![2] bcast_S1_S1x1x1_2 c_1
  let v9 : IVec S16384x50x1 32 := broadcastInDim S16384x50x1 ![0, 1, 2] bcast_S1x1x1_S16384x50x1_0_1_2 v8
  let v10 : IVec S16384x50x1 1 := cmpi .sle v5 v9
  let v11 : IVec S16384x50x1 1 := andi v7 v10
  let c_3 : IVec S_ 1 := constantI S_ 1 1#1
  let v12 : IVec S16384x50 1 := (fun x v => Host.reduce IntOp.andi x v reducesTo_S16384x50x1_S16384x50_d2 h_S_) v11 c_3
  let v13 : FVec F S16384x50x128 .f32 := (fun x i => Host.gather gather_S12x128_S16384x50x1_S16384x50x128_2_0_n_n_0_2_1128 x i) arg0 v5
  let v14 : IVec S16384x50x128 1 := broadcastInDim S16384x50x128 ![0, 1] bcast_S16384x50_S16384x50x128_0_1 v12
  let cst : FVec F S_ .f32 := constant S_ .f32 0x7FC00000#32
  let v15 : FVec F S16384x50x128 .f32 := broadcastInDim S16384x50x128 ![] bcast_S_S16384x50x128 cst
  let v16 : FVec F S16384x50x128 .f32 := select v14 v13 v15
  v16

def fn_where_2 {F : FTy → Type} [FloatOps F] (arg0 : IVec S16384x50x1 1) (arg1 : FVec F S16384x50x128 .f32) (arg2 : FVec F S16384x50x128 .f32) : FVec F S16384x50x128 .f32 :=
  let v0 : IVec S16384x50x128 1 := broadcastInDim S16384x50x128 ![0, 1, 2] bcast_S16384x50x1_S16384x50x128_0_1_2 arg0
  let v1 : FVec F S16384x50x128 .f32 := select v0 arg1 arg2
  v1

def fn_part3 {F : FTy → Type} [FloatOps F] (main_arg4 : FVec F S16384x50x128 .f32) (main_v1 : IVec S16384x50 1) (main_v21 : FVec F S16384x50x128 .f32) (main_v57 : FVec F S12x128 .f32) (main_v61 : IVec S16384x50 32) (main_c : IVec S_ 32) (main_c_7 : IVec S_ 32) : IVec S16384x50x128 1 :=
  let main_v62 : IVec S16384x50 32 := fn_clip (F := F) main_v61 main_c main_c_7
  let main_v63 : FVec F S16384x50x128 .f32 := fn_take (F := F) main_v57 main_v62
  let main_v64 : IVec S16384x50x1 1 := broadcastInDim S16384x50x1 ![0, 1] bcast_S16384x50_S16384x50x1_0_1 main_v1
  let main_v65 : FVec F S16384x50x128 .f32 := fn_where_2 (F := F) main_v64 main_v63 main_v21
  let main_v66 : FVec F S16384x50x128 .f32 := subf main_arg4 main_v65
  let main_v67 : FVec F S16384x50x128 .f32 := Host.absf main_v66
  let main_cst_8 : FVec F S_ .f32 := constant S_ .f32 0x3A000000#32
  let main_v68 : FVec F S16384x50x128 .f32 := broadcastInDim S16384x50x128 ![] bcast_S_S16384x50x128 main_cst_8
  let main_v69 : IVec S16384x50x128 1 := cmpf .ole main_v67 main_v68
  main_v69

def fn_part2 {F : FTy → Type} [FloatOps F] (main_arg3 : FVec F S2x44 .f32) (main_arg4 : FVec F S16384x50x128 .f32) (main_v1 : IVec S16384x50 1) (main_v4 : FVec F S16384x50 .f32) (main_v21 : FVec F S16384x50x128 .f32) (main_v33 : FVec F S12x42 .f32) (main_v42 : FVec F S3x4x1x42 .f32) : IVec S16384x50x128 1 :=
  let main_v43 : FVec F S12x42 .f32 := shapeCast S12x42 main_v42 shapeCasts_S3x4x1x42_S12x42
  let main_cst_4 : FVec F S_ .f32 := constant S_ .f32 0x00000000#32
  let main_v44 : FVec F S44 .f32 := (fun x v => Host.reduceAdd x v reducesTo_S2x44_S44_d0 h_S_) main_arg3 main_cst_4
  let main_cst_5 : FVec F S_ .f32 := constant S_ .f32 0x40000000#32
  let main_v45 : FVec F S44 .f32 := broadcastInDim S44 ![] bcast_S_S44 main_cst_5
  let main_v46 : FVec F S44 .f32 := Host.divf main_v44 main_v45
  let main_v47 : FVec F S1x44 .f32 := (extractStridedSlice S1x44 ![0, 0] · slices_S2x44_S1x44_0_0) main_arg3
  let main_v48 : FVec F S44 .f32 := shapeCast S44 main_v47 shapeCasts_S1x44_S44
  let main_v49 : FVec F S1x44 .f32 := (extractStridedSlice S1x44 ![1, 0] · slices_S2x44_S1x44_1_0) main_arg3
  let main_v50 : FVec F S44 .f32 := shapeCast S44 main_v49 shapeCasts_S1x44_S44
  let main_v51 : FVec F S1x44 .f32 := broadcastInDim S1x44 ![1] bcast_S44_S1x44_1 main_v46
  let main_v52 : FVec F S1x44 .f32 := broadcastInDim S1x44 ![1] bcast_S44_S1x44_1 main_v48
  let main_v53 : FVec F S1x44 .f32 := broadcastInDim S1x44 ![1] bcast_S44_S1x44_1 main_v50
  let main_v54 : FVec F S3x44 .f32 := concatenate S3x44 0 [⟨S1x44, main_v51⟩, ⟨S1x44, main_v52⟩, ⟨S1x44, main_v53⟩] concatenates_S1x44_S1x44_S1x44_S3x44_d0
  let main_v55 : FVec F S3x4x44 .f32 := broadcastInDim S3x4x44 ![0, 2] bcast_S3x44_S3x4x44_0_2 main_v54
  let main_v56 : FVec F S12x44 .f32 := shapeCast S12x44 main_v55 shapeCasts_S3x4x44_S12x44
  let main_v57 : FVec F S12x128 .f32 := concatenate S12x128 1 [⟨S12x42, main_v33⟩, ⟨S12x42, main_v43⟩, ⟨S12x44, main_v56⟩] concatenates_S12x42_S12x42_S12x44_S12x128_d1
  let main_cst_6 : FVec F S_ .f32 := constant S_ .f32 0x3F800000#32
  let main_v58 : FVec F S16384x50 .f32 := broadcastInDim S16384x50 ![] bcast_S_S16384x50 main_cst_6
  let main_v59 : FVec F S16384x50 .f32 := addf main_v4 main_v58
  let main_v60 : FVec F S16384x50 .f32 := Host.negf main_v59
  let main_v61 : IVec S16384x50 32 := fptosi 32 main_v60
  let main_c : IVec S_ 32 := constantI S_ 32 0#32
  let main_c_7 : IVec S_ 32 := constantI S_ 32 11#32
  fn_part3 (F := F) main_arg4 main_v1 main_v21 main_v57 main_v61 main_c main_c_7

def fn_part1 {F : FTy → Type} [FloatOps F] (main_arg1 : FVec F S2x42 .f32) (main_arg2 : FVec F S2x42 .f32) (main_arg3 : FVec F S2x44 .f32) (main_arg4 : FVec F S16384x50x128 .f32) (main_v1 : IVec S16384x50 1) (main_v4 : FVec F S16384x50 .f32) (main_v17 : FVec F S819200x64 .f32) (main_v18 : FVec F S819200x64 .f32) : IVec S16384x50x128 1 :=
  let main_v19 : FVec F S819200x64 .f32 := Host.cos main_v17
  let main_v20 : FVec F S819200x128 .f32 := (fun a b => concatenate S819200x128 1 [⟨S819200x64, a⟩, ⟨S819200x64, b⟩] concatenates_S819200x64_S819200x64_S819200x128_d1) main_v18 main_v19
  let main_v21 : FVec F S16384x50x128 .f32 := shapeCast S16384x50x128 main_v20 shapeCasts_S819200x128_S16384x50x128
  let main_v22 : FVec F S1x42 .f32 := (extractStridedSlice S1x42 ![0, 0] · slices_S2x42_S1x42_0_0) main_arg1
  let main_v23 : FVec F S1x1x1x42 .f32 := shapeCast S1x1x1x42 main_v22 shapeCasts_S1x42_S1x1x1x42
  let main_v24 : FVec F S2x1x1x42 .f32 := broadcastInDim S2x1x1x42 ![0, 1, 2, 3] bcast_S1x1x1x42_S2x1x1x42_0_1_2_3 main_v23
  let main_v25 : FVec F S2x42 .f32 := shapeCast S2x42 main_v24 shapeCasts_S2x1x1x42_S2x42
  let main_v26 : FVec F S1x42 .f32 := (extractStridedSlice S1x42 ![1, 0] · slices_S2x42_S1x42_1_0) main_arg1
  let main_v27 : FVec F S1x1x1x42 .f32 := shapeCast S1x1x1x42 main_v26 shapeCasts_S1x42_S1x1x1x42
  let main_v28 : FVec F S2x1x1x42 .f32 := broadcastInDim S2x1x1x42 ![0, 1, 2, 3] bcast_S1x1x1x42_S2x1x1x42_0_1_2_3 main_v27
  let main_v29 : FVec F S2x42 .f32 := shapeCast S2x42 main_v28 shapeCasts_S2x1x1x42_S2x42
  let main_v30 : FVec F S4x42 .f32 := (fun a b => concatenate S4x42 0 [⟨S2x42, a⟩, ⟨S2x42, b⟩] concatenates_S2x42_S2x42_S4x42_d0) main_v25 main_v29
  let main_v31 : FVec F S1x4x1x42 .f32 := shapeCast S1x4x1x42 main_v30 shapeCasts_S4x42_S1x4x1x42
  let main_v32 : FVec F S3x4x1x42 .f32 := broadcastInDim S3x4x1x42 ![0, 1, 2, 3] bcast_S1x4x1x42_S3x4x1x42_0_1_2_3 main_v31
  let main_v33 : FVec F S12x42 .f32 := shapeCast S12x42 main_v32 shapeCasts_S3x4x1x42_S12x42
  let main_v34 : FVec F S1x42 .f32 := (extractStridedSlice S1x42 ![0, 0] · slices_S2x42_S1x42_0_0) main_arg2
  let main_v35 : FVec F S1x42 .f32 := (extractStridedSlice S1x42 ![1, 0] · slices_S2x42_S1x42_1_0) main_arg2
  let main_v36 : FVec F S1x1x1x42 .f32 := shapeCast S1x1x1x42 main_v35 shapeCasts_S1x42_S1x1x1x42
  let main_v37 : FVec F S2x1x1x42 .f32 := broadcastInDim S2x1x1x42 ![0, 1, 2, 3] bcast_S1x1x1x42_S2x1x1x42_0_1_2_3 main_v36
  let main_v38 : FVec F S2x42 .f32 := shapeCast S2x42 main_v37 shapeCasts_S2x1x1x42_S2x42
  let main_v39 : FVec F S1x42 .f32 := (extractStridedSlice S1x42 ![0, 0] · slices_S2x42_S1x42_0_0) main_arg2
  let main_v40 : FVec F S4x42 .f32 := concatenate S4x42 0 [⟨S1x42, main_v34⟩, ⟨S2x42, main_v38⟩, ⟨S1x42, main_v39⟩] concatenates_S1x42_S2x42_S1x42_S4x42_d0
  let main_v41 : FVec F S1x4x1x42 .f32 := shapeCast S1x4x1x42 main_v40 shapeCasts_S4x42_S1x4x1x42
  let main_v42 : FVec F S3x4x1x42 .f32 := broadcastInDim S3x4x1x42 ![0, 1, 2, 3] bcast_S1x4x1x42_S3x4x1x42_0_1_2_3 main_v41
  fn_part2 (F := F) main_arg3 main_arg4 main_v1 main_v4 main_v21 main_v33 main_v42

def fn {F : FTy → Type} [FloatOps F] (main_arg0 : FVec F S16384x50 .f32) (main_arg1 : FVec F S2x42 .f32) (main_arg2 : FVec F S2x42 .f32) (main_arg3 : FVec F S2x44 .f32) (main_arg4 : FVec F S16384x50x128 .f32) : IVec S16384x50x128 1 :=
  let main_cst : FVec F S_ .f32 := constant S_ .f32 0x00000000#32
  let main_v0 : FVec F S16384x50 .f32 := broadcastInDim S16384x50 ![] bcast_S_S16384x50 main_cst
  let main_v1 : IVec S16384x50 1 := cmpf .olt main_arg0 main_v0
  let main_v2 : IVec S16384x50 1 := noti main_v1
  let main_cst_0 : FVec F S_ .f32 := constant S_ .f32 0x3F800000#32
  let main_v3 : FVec F S16384x50 .f32 := fn_floor_divide (F := F) main_arg0 main_cst_0
  let main_v4 : FVec F S16384x50 .f32 := fn_where_0 (F := F) main_v2 main_v3 main_arg0
  let main_v5 : FVec F S64 .f32 := sitofp .f32 (iotaInDim S64 32 0)
  let main_cst_1 : FVec F S_ .f32 := constant S_ .f32 0x42800000#32
  let main_v6 : FVec F S64 .f32 := broadcastInDim S64 ![] bcast_S_S64 main_cst_1
  let main_v7 : FVec F S64 .f32 := Host.divf main_v5 main_v6
  let main_cst_2 : FVec F S_ .f32 := constant S_ .f32 0x461C4000#32
  let main_v8 : FVec F S64 .f32 := broadcastInDim S64 ![] bcast_S_S64 main_cst_2
  let main_v9 : FVec F S64 .f32 := Host.powf main_v8 main_v7
  let main_cst_3 : FVec F S_ .f32 := constant S_ .f32 0x3F800000#32
  let main_v10 : FVec F S64 .f32 := broadcastInDim S64 ![] bcast_S_S64 main_cst_3
  let main_v11 : FVec F S64 .f32 := Host.divf main_v10 main_v9
  let main_v12 : FVec F S819200 .f32 := shapeCast S819200 main_v4 shapeCasts_S16384x50_S819200
  let main_v13 : FVec F S819200x1 .f32 := broadcastInDim S819200x1 ![0] bcast_S819200_S819200x1_0 main_v12
  let main_v14 : FVec F S1x64 .f32 := broadcastInDim S1x64 ![1] bcast_S64_S1x64_1 main_v11
  let main_v15 : FVec F S819200x64 .f32 := broadcastInDim S819200x64 ![0, 1] bcast_S819200x1_S819200x64_0_1 main_v13
  let main_v16 : FVec F S819200x64 .f32 := broadcastInDim S819200x64 ![0, 1] bcast_S1x64_S819200x64_0_1 main_v14
  let main_v17 : FVec F S819200x64 .f32 := mulf main_v15 main_v16
  let main_v18 : FVec F S819200x64 .f32 := Host.sin main_v17
  fn_part1 (F := F) main_arg1 main_arg2 main_arg3 main_arg4 main_v1 main_v4 main_v17 main_v18
-- ==== Pre_no_overflow.lean ====
abbrev S16384x50 : Shape := ⟨2, ![16384, 50]⟩
abbrev S2x42 : Shape := ⟨2, ![2, 42]⟩
abbrev S2x44 : Shape := ⟨2, ![2, 44]⟩
abbrev S_ : Shape := ⟨0, ![]⟩

class Facts : Prop where
  bcast_S_S16384x50 : S_.BroadcastsInDim S16384x50 (![] : Fin 0 → Fin S16384x50.rank)
  bcast_S_S2x42 : S_.BroadcastsInDim S2x42 (![] : Fin 0 → Fin S2x42.rank)
  bcast_S_S2x44 : S_.BroadcastsInDim S2x44 (![] : Fin 0 → Fin S2x44.rank)

variable [Facts]

def fn {F : FTy → Type} [FloatOps F] (main_arg0 : FVec F S16384x50 .f32) (main_arg1 : FVec F S2x42 .f32) (main_arg2 : FVec F S2x42 .f32) (main_arg3 : FVec F S2x44 .f32) : IVec S16384x50 1 × IVec S2x42 1 × IVec S2x42 1 × IVec S2x44 1 :=
  let main_cst : FVec F S_ .f32 := constant S_ .f32 0x7F800000#32
  let main_v0 : FVec F S16384x50 .f32 := broadcastInDim S16384x50 ![] bcast_S_S16384x50 main_cst
  let main_v1 : IVec S16384x50 1 := cmpf .olt main_arg0 main_v0
  let main_v2 : FVec F S2x42 .f32 := Host.absf main_arg1
  let main_cst_0 : FVec F S_ .f32 := constant S_ .f32 0x7F800000#32
  let main_v3 : FVec F S2x42 .f32 := broadcastInDim S2x42 ![] bcast_S_S2x42 main_cst_0
  let main_v4 : IVec S2x42 1 := cmpf .olt main_v2 main_v3
  let main_v5 : FVec F S2x42 .f32 := Host.absf main_arg2
  let main_cst_1 : FVec F S_ .f32 := constant S_ .f32 0x7F800000#32
  let main_v6 : FVec F S2x42 .f32 := broadcastInDim S2x42 ![] bcast_S_S2x42 main_cst_1
  let main_v7 : IVec S2x42 1 := cmpf .olt main_v5 main_v6
  let main_v8 : FVec F S2x44 .f32 := Host.absf main_arg3
  let main_cst_2 : FVec F S_ .f32 := constant S_ .f32 0x7F800000#32
  let main_v9 : FVec F S2x44 .f32 := broadcastInDim S2x44 ![] bcast_S_S2x44 main_cst_2
  let main_v10 : IVec S2x44 1 := cmpf .olt main_v8 main_v9
  (main_v1, main_v4, main_v7, main_v10)
-- ==== Pre_tables_finite.lean ====
abbrev S16384x50 : Shape := ⟨2, ![16384, 50]⟩
abbrev S2x42 : Shape := ⟨2, ![2, 42]⟩
abbrev S2x44 : Shape := ⟨2, ![2, 44]⟩
abbrev S_ : Shape := ⟨0, ![]⟩

class Facts : Prop where
  bcast_S_S2x42 : S_.BroadcastsInDim S2x42 (![] : Fin 0 → Fin S2x42.rank)
  bcast_S_S2x44 : S_.BroadcastsInDim S2x44 (![] : Fin 0 → Fin S2x44.rank)

variable [Facts]

def fn {F : FTy → Type} [FloatOps F] (main_arg0 : FVec F S16384x50 .f32) (main_arg1 : FVec F S2x42 .f32) (main_arg2 : FVec F S2x42 .f32) (main_arg3 : FVec F S2x44 .f32) : IVec S2x42 1 × IVec S2x42 1 × IVec S2x44 1 :=
  let main_v0 : FVec F S2x42 .f32 := Host.absf main_arg1
  let main_cst : FVec F S_ .f32 := constant S_ .f32 0x7F800000#32
  let main_v1 : FVec F S2x42 .f32 := broadcastInDim S2x42 ![] bcast_S_S2x42 main_cst
  let main_v2 : IVec S2x42 1 := cmpf .olt main_v0 main_v1
  let main_v3 : FVec F S2x42 .f32 := Host.absf main_arg2
  let main_cst_0 : FVec F S_ .f32 := constant S_ .f32 0x7F800000#32
  let main_v4 : FVec F S2x42 .f32 := broadcastInDim S2x42 ![] bcast_S_S2x42 main_cst_0
  let main_v5 : IVec S2x42 1 := cmpf .olt main_v3 main_v4
  let main_v6 : FVec F S2x44 .f32 := Host.absf main_arg3
  let main_cst_1 : FVec F S_ .f32 := constant S_ .f32 0x7F800000#32
  let main_v7 : FVec F S2x44 .f32 := broadcastInDim S2x44 ![] bcast_S_S2x44 main_cst_1
  let main_v8 : IVec S2x44 1 := cmpf .olt main_v6 main_v7
  (main_v2, main_v5, main_v8)
-- ==== Kernel.lean ====
abbrev S16384x50 : Shape := ⟨2, ![16384, 50]⟩
abbrev S2x42 : Shape := ⟨2, ![2, 42]⟩
abbrev S2x44 : Shape := ⟨2, ![2, 44]⟩
abbrev S_ : Shape := ⟨0, ![]⟩
abbrev S2x128 : Shape := ⟨2, ![2, 128]⟩
abbrev S16384x50x128 : Shape := ⟨3, ![16384, 50, 128]⟩
abbrev S512x50 : Shape := ⟨2, ![512, 50]⟩
abbrev S512x50x128 : Shape := ⟨3, ![512, 50, 128]⟩
abbrev S512x50x1 : Shape := ⟨3, ![512, 50, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 15
  | .vmem => 7
  | .smem => 0
  | _ => 0

abbrev bufTy : (tb : Table) → Fin (tcTables nBuf tb) → BufTy
  | .hbm, ⟨0, _⟩ => ⟨S16384x50, .f32⟩
  | .hbm, ⟨1, _⟩ => ⟨S2x42, .f32⟩
  | .hbm, ⟨2, _⟩ => ⟨S2x42, .f32⟩
  | .hbm, ⟨3, _⟩ => ⟨S2x44, .f32⟩
  | .hbm, ⟨4, _⟩ => ⟨S_, .i32⟩
  | .hbm, ⟨5, _⟩ => ⟨S_, .f32⟩
  | .hbm, ⟨6, _⟩ => ⟨S2x128, .f32⟩
  | .hbm, ⟨7, _⟩ => ⟨S_, .i32⟩
  | .hbm, ⟨8, _⟩ => ⟨S_, .f32⟩
  | .hbm, ⟨9, _⟩ => ⟨S2x128, .f32⟩
  | .hbm, ⟨10, _⟩ => ⟨S_, .i32⟩
  | .hbm, ⟨11, _⟩ => ⟨S_, .f32⟩
  | .hbm, ⟨12, _⟩ => ⟨S2x128, .f32⟩
  | .hbm, ⟨13, _⟩ => ⟨S16384x50x128, .bf16⟩
  | .hbm, ⟨14, _⟩ => ⟨S16384x50x128, .f32⟩
  | .local _ .vmem, ⟨0, _⟩ => ⟨S512x50, .f32⟩
  | .local _ .vmem, ⟨1, _⟩ => ⟨S512x50, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S512x50x128, .bf16⟩
  | .local _ .vmem, ⟨6, _⟩ => ⟨S512x50x128, .bf16⟩
  | _, _ => ⟨S16384x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x50x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "neg_log_base_div_half" => some (((-(Real.log 10000)) * 64⁻¹ : ℝ) : EReal)
  | "neg_log_two_pi" => some ((-(Real.log (2 * Real.pi)) : ℝ) : EReal)
  | "sixth" => some ((1 / 6 : ℝ) : EReal)
  | _ => none
-- ==== ReferenceIdeal.lean ====
abbrev S16384x50 : Shape := ⟨2, ![16384, 50]⟩
abbrev S2x42 : Shape := ⟨2, ![2, 42]⟩
abbrev S2x44 : Shape := ⟨2, ![2, 44]⟩
abbrev S_ : Shape := ⟨0, ![]⟩
abbrev S64 : Shape := ⟨1, ![64]⟩
abbrev S819200 : Shape := ⟨1, ![819200]⟩
abbrev S819200x1 : Shape := ⟨2, ![819200, 1]⟩
abbrev S1x64 : Shape := ⟨2, ![1, 64]⟩
abbrev S819200x64 : Shape := ⟨2, ![819200, 64]⟩
abbrev S819200x128 : Shape := ⟨2, ![819200, 128]⟩
abbrev S16384x50x128 : Shape := ⟨3, ![16384, 50, 128]⟩
abbrev S1x42 : Shape := ⟨2, ![1, 42]⟩
abbrev S1x1x1x42 : Shape := ⟨4, ![1, 1, 1, 42]⟩
abbrev S2x1x1x42 : Shape := ⟨4, ![2, 1, 1, 42]⟩
abbrev S4x42 : Shape := ⟨2, ![4, 42]⟩
abbrev S1x4x1x42 : Shape := ⟨4, ![1, 4, 1, 42]⟩
abbrev S3x4x1x42 : Shape := ⟨4, ![3, 4, 1, 42]⟩
abbrev S12x42 : Shape := ⟨2, ![12, 42]⟩
abbrev S44 : Shape := ⟨1, ![44]⟩
abbrev S1x44 : Shape := ⟨2, ![1, 44]⟩
abbrev S3x44 : Shape := ⟨2, ![3, 44]⟩
abbrev S3x4x44 : Shape := ⟨3, ![3, 4, 44]⟩
abbrev S12x44 : Shape := ⟨2, ![12, 44]⟩
abbrev S12x128 : Shape := ⟨2, ![12, 128]⟩
abbrev S16384x50x1 : Shape := ⟨3, ![16384, 50, 1]⟩
abbrev S1 : Shape := ⟨1, ![1]⟩
abbrev S1x1x1 : Shape := ⟨3, ![1, 1, 1]⟩

abbrev nBuf : Space → Nat
  | .hbm => 132
  | .vmem => 0
  | .smem => 0
  | _ => 0

abbrev hbmTy0_0 (i : Nat) : BufTy := match i % 128 with
  | 0 => ⟨S16384x50, .f32⟩
  | 1 => ⟨S2x42, .f32⟩
  | 2 => ⟨S2x42, .f32⟩
  | 3 => ⟨S2x44, .f32⟩
  | 4 => ⟨S_, .f32⟩
  | 5 => ⟨S16384x50, .f32⟩
  | 6 => ⟨S16384x50, .i1⟩
  | 7 => ⟨S16384x50, .i1⟩
  | 8 => ⟨S_, .f32⟩
  | 9 => ⟨S_, .f32⟩
  | 10 => ⟨S16384x50, .f32⟩
  | 11 => ⟨S16384x50, .f32⟩
  | 12 => ⟨S_, .f32⟩
  | 13 => ⟨S_, .i1⟩
  | 14 => ⟨S16384x50, .f32⟩
  | 15 => ⟨S16384x50, .f32⟩
  | 16 => ⟨S16384x50, .f32⟩
  | 17 => ⟨S16384x50, .f32⟩
  | 18 => ⟨S_, .f32⟩
  | 19 => ⟨S16384x50, .f32⟩
  | 20 => ⟨S16384x50, .i1⟩
  | 21 => ⟨S_, .f32⟩
  | 22 => ⟨S16384x50, .f32⟩
  | 23 => ⟨S16384x50, .f32⟩
  | 24 => ⟨S16384x50, .i1⟩
  | 25 => ⟨S16384x50, .i1⟩
  | 26 => ⟨S16384x50, .f32⟩
  | 27 => ⟨S16384x50, .f32⟩
  | 28 => ⟨S16384x50, .f32⟩
  | 29 => ⟨S_, .f32⟩
  | 30 => ⟨S16384x50, .f32⟩
  | 31 => ⟨S16384x50, .f32⟩
  | 32 => ⟨S16384x50, .f32⟩
  | 33 => ⟨S16384x50, .f32⟩
  | 34 => ⟨S16384x50, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S819200, .f32⟩
  | 46 => ⟨S819200x1, .f32⟩
  | 47 => ⟨S1x64, .f32⟩
  | 48 => ⟨S819200x64, .f32⟩
  | 49 => ⟨S819200x64, .f32⟩
  | 50 => ⟨S819200x64, .f32⟩
  | 51 => ⟨S819200x64, .f32⟩
  | 52 => ⟨S819200x64, .f32⟩
  | 53 => ⟨S819200x128, .f32⟩
  | 54 => ⟨S16384x50x128, .f32⟩
  | 55 => ⟨S1x42, .f32⟩
  | 56 => ⟨S1x1x1x42, .f32⟩
  | 57 => ⟨S2x1x1x42, .f32⟩
  | 58 => ⟨S2x42, .f32⟩
  | 59 => ⟨S1x42, .f32⟩
  | 60 => ⟨S1x1x1x42, .f32⟩
  | 61 => ⟨S2x1x1x42, .f32⟩
  | 62 => ⟨S2x42, .f32⟩
  | 63 => ⟨S4x42, .f32⟩
  | 64 => ⟨S1x4x1x42, .f32⟩
  | 65 => ⟨S3x4x1x42, .f32⟩
  | 66 => ⟨S12x42, .f32⟩
  | 67 => ⟨S1x42, .f32⟩
  | 68 => ⟨S1x42, .f32⟩
  | 69 => ⟨S1x1x1x42, .f32⟩
  | 70 => ⟨S2x1x1x42, .f32⟩
  | 71 => ⟨S2x42, .f32⟩
  | 72 => ⟨S1x42, .f32⟩
  | 73 => ⟨S4x42, .f32⟩
  | 74 => ⟨S1x4x1x42, .f32⟩
  | 75 => ⟨S3x4x1x42, .f32⟩
  | 76 => ⟨S12x42, .f32⟩
  | 77 => ⟨S_, .f32⟩
  | 78 => ⟨S44, .f32⟩
  | 79 => ⟨S_, .f32⟩
  | 80 => ⟨S44, .f32⟩
  | 81 => ⟨S44, .f32⟩
  | 82 => ⟨S1x44, .f32⟩
  | 83 => ⟨S44, .f32⟩
  | 84 => ⟨S1x44, .f32⟩
  | 85 => ⟨S44, .f32⟩
  | 86 => ⟨S1x44, .f32⟩
  | 87 => ⟨S1x44, .f32⟩
  | 88 => ⟨S1x44, .f32⟩
  | 89 => ⟨S3x44, .f32⟩
  | 90 => ⟨S3x4x44, .f32⟩
  | 91 => ⟨S12x44, .f32⟩
  | 92 => ⟨S12x128, .f32⟩
  | 93 => ⟨S_, .f32⟩
  | 94 => ⟨S16384x50, .f32⟩
  | 95 => ⟨S16384x50, .f32⟩
  | 96 => ⟨S16384x50, .f32⟩
  | 97 => ⟨S16384x50, .i32⟩
  | 98 => ⟨S_, .i32⟩
  | 99 => ⟨S_, .i32⟩
  | 100 => ⟨S_, .i32⟩
  | 101 => ⟨S16384x50, .i32⟩
  | 102 => ⟨S16384x50, .i32⟩
  | 103 => ⟨S_, .i32⟩
  | 104 => ⟨S16384x50, .i32⟩
  | 105 => ⟨S16384x50, .i32⟩
  | 106 => ⟨S_, .i32⟩
  | 107 => ⟨S16384x50, .i32⟩
  | 108 => ⟨S16384x50, .i1⟩
  | 109 => ⟨S_, .i32⟩
  | 110 => ⟨S16384x50, .i32⟩
  | 111 => ⟨S16384x50, .i32⟩
  | 112 => ⟨S16384x50, .i32⟩
  | 113 => ⟨S16384x50x1, .i32⟩
  | 114 => ⟨S1, .i32⟩
  | 115 => ⟨S_, .i32⟩
  | 116 => ⟨S16384x50x1, .i32⟩
  | 117 => ⟨S16384x50x1, .i1⟩
  | 118 => ⟨S1x1x1, .i32⟩
  | 119 => ⟨S16384x50x1, .i32⟩
  | 120 => ⟨S16384x50x1, .i1⟩
  | 121 => ⟨S16384x50x1, .i1⟩
  | 122 => ⟨S_, .i1⟩
  | 123 => ⟨S16384x50, .i1⟩
  | 124 => ⟨S16384x50x128, .f32⟩
  | 125 => ⟨S16384x50x128, .i1⟩
  | 126 => ⟨S_, .f32⟩
  | 127 => ⟨S16384x50x128, .f32⟩
  | _ => ⟨S16384x50, .f32⟩

abbrev hbmTy0_1 (i : Nat) : BufTy := match i % 128 with
  | 0 => ⟨S16384x50x128, .f32⟩
  | 1 => ⟨S16384x50x1, .i1⟩
  | 2 => ⟨S16384x50x128, .i1⟩
  | 3 => ⟨S16384x50x128, .f32⟩
  | _ => ⟨S16384x50, .f32⟩

abbrev hbmTy (i : Nat) : BufTy := match i / 128 with
  | 0 => hbmTy0_0 i
  | 1 => hbmTy0_1 i
  | _ => ⟨S16384x50, .f32⟩

abbrev bufTy : (tb : Table) → Fin (tcTables nBuf tb) → BufTy
  | .hbm, ⟨i, _⟩ => hbmTy i
  | _, _ => ⟨S16384x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_0 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_cst_1 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_cst_3 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_4 : Ref sig .tc := ⟨.hbm, 77, rfl⟩
abbrev main_v44 : Ref sig .tc := ⟨.hbm, 78, rfl⟩
abbrev main_cst_5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_6 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c : Ref sig .tc := ⟨.hbm, 98, rfl⟩
abbrev main_c_7 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v62 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v63 : Ref sig .tc := ⟨.hbm, 128, rfl⟩
abbrev main_v64 : Ref sig .tc := ⟨.hbm, 129, rfl⟩
abbrev main_call4_v0 : Ref sig .tc := ⟨.hbm, 130, rfl⟩
abbrev main_v65 : Ref sig .tc := ⟨.hbm, 131, rfl⟩

abbrev nD : Nat := 1
abbrev τ : Topo := Topo.v7x

variable {F : FTy → Type} [FloatOps F]
-- ==== KernelSine.lean ====
abbrev S16384x50 : Shape := ⟨2, ![16384, 50]⟩
abbrev S2x42 : Shape := ⟨2, ![2, 42]⟩
abbrev S2x44 : Shape := ⟨2, ![2, 44]⟩
abbrev S_ : Shape := ⟨0, ![]⟩
abbrev S2x128 : Shape := ⟨2, ![2, 128]⟩
abbrev S16384x50x128 : Shape := ⟨3, ![16384, 50, 128]⟩
abbrev S512x50 : Shape := ⟨2, ![512, 50]⟩
abbrev S512x50x128 : Shape := ⟨3, ![512, 50, 128]⟩
abbrev S512x50x1 : Shape := ⟨3, ![512, 50, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 15
  | .vmem => 7
  | .smem => 0
  | _ => 0

abbrev bufTy : (tb : Table) → Fin (tcTables nBuf tb) → BufTy
  | .hbm, ⟨0, _⟩ => ⟨S16384x50, .f32⟩
  | .hbm, ⟨1, _⟩ => ⟨S2x42, .f32⟩
  | .hbm, ⟨2, _⟩ => ⟨S2x42, .f32⟩
  | .hbm, ⟨3, _⟩ => ⟨S2x44, .f32⟩
  | .hbm, ⟨4, _⟩ => ⟨S_, .i32⟩
  | .hbm, ⟨5, _⟩ => ⟨S_, .f32⟩
  | .hbm, ⟨6, _⟩ => ⟨S2x128, .f32⟩
  | .hbm, ⟨7, _⟩ => ⟨S_, .i32⟩
  | .hbm, ⟨8, _⟩ => ⟨S_, .f32⟩
  | .hbm, ⟨9, _⟩ => ⟨S2x128, .f32⟩
  | .hbm, ⟨10, _⟩ => ⟨S_, .i32⟩
  | .hbm, ⟨11, _⟩ => ⟨S_, .f32⟩
  | .hbm, ⟨12, _⟩ => ⟨S2x128, .f32⟩
  | .hbm, ⟨13, _⟩ => ⟨S16384x50x128, .bf16⟩
  | .hbm, ⟨14, _⟩ => ⟨S16384x50x128, .f32⟩
  | .local _ .vmem, ⟨0, _⟩ => ⟨S512x50, .f32⟩
  | .local _ .vmem, ⟨1, _⟩ => ⟨S512x50, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S512x50x128, .bf16⟩
  | .local _ .vmem, ⟨6, _⟩ => ⟨S512x50x128, .bf16⟩
  | _, _ => ⟨S16384x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x50x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelSineIdeal.lean ====
variable {F : FTy → Type} [FloatOps F] [Named F]
def κ : String → Option EReal := fun
  | "neg_log_base_div_half" => some (((-(Real.log 10000)) * 64⁻¹ : ℝ) : EReal)
  | "neg_log_two_pi" => some ((-(Real.log (2 * Real.pi)) : ℝ) : EReal)
  | "sixth" => some ((1 / 6 : ℝ) : EReal)
  | "two_pi" => some ((2 * Real.pi : ℝ) : EReal)
  | _ => none
-- ==== Proof.Consts.lean ====
/- UNTRUSTED — the real numbers that the float constants of the two programs and of the predicates denote. -/
module

public import Idealize.ShloMosaic.PureOps.Ideal

@[expose] public section

noncomputable section

namespace Cert.Consts

open Idealize.ShloMosaic

/-- The bound that the finiteness predicates compare with is `+∞`. -/
theorem bits_inf : Ideal.ofBits .f32 0x7F800000#32 = (⊤ : EReal) := by
  simp [Ideal.ofBits, Ideal.ieee]

/-- The pattern of `11`. -/
theorem bits_eleven : Ideal.ofBits .f32 0x41300000#32 = ((11 : ℝ) : EReal) := by
  simp [Ideal.ofBits, Ideal.ieee, -EReal.coe_mul]; norm_num

/-- The pattern of `1 / 4`. -/
theorem bits_quarter : Ideal.ofBits .f32 0x3E800000#32 = ((1 / 4 : ℝ) : EReal) := by
  simp [Ideal.ofBits, Ideal.ieee, -EReal.coe_mul]; norm_num

/-- The pattern of `4`. -/
theorem bits_four : Ideal.ofBits .f32 0x40800000#32 = ((4 : ℝ) : EReal) := by
  simp [Ideal.ofBits, Ideal.ieee, -EReal.coe_mul]; norm_num

/-- The pattern of `-11`. -/
theorem bits_neg_eleven : Ideal.ofBits .f32 0xC1300000#32 = ((-11 : ℝ) : EReal) := by
  simp [Ideal.ofBits, Ideal.ieee, -EReal.coe_mul]; norm_num

/-- The pattern of `18`. -/
theorem bits_eighteen : Ideal.ofBits .f32 0x41900000#32 = ((18 : ℝ) : EReal) := by
  simp [Ideal.ofBits, Ideal.ieee, -EReal.coe_mul]; norm_num

/-- The pattern of `9`. -/
theorem bits_nine : Ideal.ofBits .f32 0x41100000#32 = ((9 : ℝ) : EReal) := by
  simp [Ideal.ofBits, Ideal.ieee, -EReal.coe_mul]; norm_num

/-- The pattern of `2`. -/
theorem bits_two : Ideal.ofBits .f32 0x40000000#32 = ((2 : ℝ) : EReal) := by
  simp [Ideal.ofBits, Ideal.ieee, -EReal.coe_mul]; norm_num

/-- The pattern of `5`. -/
theorem bits_five : Ideal.ofBits .f32 0x40A00000#32 = ((5 : ℝ) : EReal) := by
  simp [Ideal.ofBits, Ideal.ieee, -EReal.coe_mul]; norm_num

/-- The pattern of `1 / 2`. -/
theorem bits_half : Ideal.ofBits .f32 0x3F000000#32 = ((1 / 2 : ℝ) : EReal) := by
  simp [Ideal.ofBits, Ideal.ieee, -EReal.coe_mul]; norm_num

/-- The pattern of `3`. -/
theorem bits_three : Ideal.ofBits .f32 0x40400000#32 = ((3 : ℝ) : EReal) := by
  simp [Ideal.ofBits, Ideal.ieee, -EReal.coe_mul]; norm_num

/-- The pattern of `-3`. -/
theorem bits_neg_three : Ideal.ofBits .f32 0xC0400000#32 = ((-3 : ℝ) : EReal) := by
  simp [Ideal.ofBits, Ideal.ieee, -EReal.coe_mul]; norm_num

/-- The pattern of `64`. -/
theorem bits_sixty_four : Ideal.ofBits .f32 0x42800000#32 = ((64 : ℝ) : EReal) := by
  simp [Ideal.ofBits, Ideal.ieee, -EReal.coe_mul]; norm_num

/-- The pattern of `10000`. -/
theorem bits_base : Ideal.ofBits .f32 0x461C4000#32 = ((10000 : ℝ) : EReal) := by
  simp [Ideal.ofBits, Ideal.ieee, -EReal.coe_mul]; norm_num

/-- The pattern of `1 / 2048`. -/
theorem bits_tolerance : Ideal.ofBits .f32 0x3A000000#32 = ((1 / 2048 : ℝ) : EReal) := by
  simp [Ideal.ofBits, Ideal.ieee, -EReal.coe_mul]; norm_num

/-- The pattern of `-7351671 / 131072`. -/
theorem bits_poly0 : Ideal.ofBits .f32 0xC2605AEE#32 = ((-7351671 / 131072 : ℝ) : EReal) := by
  simp [Ideal.ofBits, Ideal.ieee, -EReal.coe_mul]; norm_num

/-- The pattern of `10214607 / 131072`. -/
theorem bits_poly1 : Ideal.ofBits .f32 0x429BDCCF#32 = ((10214607 / 131072 : ℝ) : EReal) := by
  simp [Ideal.ofBits, Ideal.ieee, -EReal.coe_mul]; norm_num

/-- The pattern of `-10772501 / 262144`. -/
theorem bits_poly2 : Ideal.ofBits .f32 0xC2246015#32 = ((-10772501 / 262144 : ℝ) : EReal) := by
  simp [Ideal.ofBits, Ideal.ieee, -EReal.coe_mul]; norm_num

/-- The pattern of `6583629 / 1048576`. -/
theorem bits_poly3 : Ideal.ofBits .f32 0x40C8EA9A#32 = ((6583629 / 1048576 : ℝ) : EReal) := by
  simp [Ideal.ofBits, Ideal.ieee, -EReal.coe_mul]; norm_num

end Cert.Consts

end
-- ==== Proof.Elt.lean ====
/- UNTRUSTED — what the kernel computes at one position and one lane, as a function of extended reals, and what that
   function is: the interpolating cubic at a negative position, a fraction of a turn at the others. -/
module

public import proofs.«01_k».proof.Proof.Consts
public import Idealize.ShloMosaic.Lib.Pointwise
public import Mathlib.Analysis.SpecialFunctions.Pow.Real
public import Mathlib.Analysis.SpecialFunctions.Trigonometric.Basic

@[expose] public section

noncomputable section

namespace Cert.Elt

open Idealize.ShloMosaic Cert.Consts

/-- The row of the table at a position, as the kernel computes it. -/
def idx (x : EReal) : EReal := min (Ideal.ofBits .f32 0x41300000#32) (max 0 (Ideal.liftRound Int.floor (0 - x - 1)))

/-- The number of whole groups of four rows above the row `i`. -/
def quot (i : EReal) : EReal := Ideal.liftRound Int.floor (i * Ideal.ofBits .f32 0x3E800000#32)

/-- The whole number that the position stands for: minus the row less one, or the position rounded down. -/
def step (x : EReal) : EReal := if x < 0 then 0 - idx x - 1 else Ideal.liftRound Int.floor x

/-- The lane's number modulo 64, as the word that the kernel computes. -/
def laneWord (d : ℕ) : BitVec 32 :=
  let n := Scalar.select (Scalar.cmpi CmpIPredicate.eq 64#32 0#32) 1#32 64#32
  let w := IntOp.remsi ArithUnit.vector (BitVec.ofNat 32 d) n
  Scalar.select (IntOp.andi (IntOp.xori (IntOp.cmpi CmpIPredicate.slt w 0#32) (Scalar.cmpi CmpIPredicate.slt n 0#32))
    (IntOp.cmpi CmpIPredicate.ne w 0#32)) (IntOp.addi w n) w

/-- The angle in turns, of which the constants `L` and `T` give the frequency. -/
def turns (L T s : EReal) (d : ℕ) : EReal :=
  s * Ideal.exp (FloatOps.sitofp (F := Ideal) FTy.f32 (laneWord d) * L + T)
    + Scalar.select (IntOp.cmpi CmpIPredicate.sge (BitVec.ofNat 32 d) 64#32) (Ideal.ofBits .f32 0x3E800000#32) 0

/-- The angle in turns, less the nearest whole number of turns. -/
def frac (L T s : EReal) (d : ℕ) : EReal := turns L T s d - Ideal.liftRound Ideal.roundHalfEven (turns L T s d)

/-- The kernel's polynomial in place of the sine of a turn. -/
def poly (y : EReal) : EReal :=
  (((Ideal.ofBits .f32 0xC2605AEE#32 * (y * y) + Ideal.ofBits .f32 0x429BDCCF#32) * (y * y)
    + Ideal.ofBits .f32 0xC2246015#32) * (y * y) + Ideal.ofBits .f32 0x40C8EA9A#32) * y

/-- The variable of the interpolation: the row within its group of four, or the group. -/
def node (i : EReal) (d : ℕ) : EReal :=
  Scalar.select (IntOp.cmpi CmpIPredicate.slt (BitVec.ofNat 32 d) 84#32)
    (i - Ideal.ofBits .f32 0x40800000#32 * quot i) (quot i)

/-- The interpolating cubic through the four values of the first two tables plus the parabola through the three values of
    the last one, at `w`. `S` is the constant one sixth. -/
def cubic (S t0 t1 r0 r1 o0 o1 w : EReal) : EReal :=
  (((0 - (t0 + r0) + Ideal.ofBits .f32 0x40400000#32 * (t0 + r1) - Ideal.ofBits .f32 0x40400000#32 * (t1 + r1)
        + (t1 + r0)) * S * w
      + ((Ideal.ofBits .f32 0x40000000#32 * (t0 + r0) - Ideal.ofBits .f32 0x40A00000#32 * (t0 + r1)
          + Ideal.ofBits .f32 0x40800000#32 * (t1 + r1) - (t1 + r0)) * Ideal.ofBits .f32 0x3F000000#32
        + ((o0 + o1) * Ideal.ofBits .f32 0x3F000000#32 - Ideal.ofBits .f32 0x40000000#32 * o0 + o1)
          * Ideal.ofBits .f32 0x3F000000#32)) * w
    + ((Ideal.ofBits .f32 0xC1300000#32 * (t0 + r0) + Ideal.ofBits .f32 0x41900000#32 * (t0 + r1)
          - Ideal.ofBits .f32 0x41100000#32 * (t1 + r1) + Ideal.ofBits .f32 0x40000000#32 * (t1 + r0)) * S
      + (Ideal.ofBits .f32 0xC0400000#32 * ((o0 + o1) * Ideal.ofBits .f32 0x3F000000#32)
          + Ideal.ofBits .f32 0x40800000#32 * o0 - o1) * Ideal.ofBits .f32 0x3F000000#32)) * w
  + (t0 + r0 + (o0 + o1) * Ideal.ofBits .f32 0x3F000000#32)

/-- The kernel's result at a position `x` and a lane `d`; `wave` is what it computes of the fraction of a turn. -/
def out (L T S : EReal) (wave : EReal → EReal) (x t0 t1 r0 r1 o0 o1 : EReal) (d : ℕ) : EReal :=
  if step x < 0 then cubic S t0 t1 r0 r1 o0 o1 (node (idx x) d) else wave (frac L T (step x) d)

/-! ### The row -/

/-- The row of the table at a position, as a natural number. -/
def row : EReal → ℕ
  | ⊥ => 11
  | ⊤ => 0
  | (r : ℝ) => (min 11 (max 0 (⌊-r - 1⌋))).toNat

@[simp] theorem row_bot : row ⊥ = 11 := rfl
@[simp] theorem row_top : row ⊤ = 0 := rfl
@[simp] theorem row_coe (r : ℝ) : row r = (min 11 (max 0 (⌊-r - 1⌋))).toNat := rfl

/-- The table has twelve rows. -/
theorem row_lt (x : EReal) : row x < 12 := by
  induction x with
  | bot => simp
  | top => simp
  | coe r => rw [row_coe]; omega

/-- The kernel's row is that number. -/
theorem idx_eq (x : EReal) : idx x = ((row x : ℝ) : EReal) := by
  unfold idx
  rw [bits_eleven]
  induction x with
  | bot =>
    have e : (0 : EReal) - ⊥ - 1 = ⊤ := by rw [show (1 : EReal) = ((1 : ℝ) : EReal) from rfl]; rfl
    rw [e]; simp
  | top =>
    have e : (0 : EReal) - ⊤ - 1 = ⊥ := by rw [show (1 : EReal) = ((1 : ℝ) : EReal) from rfl]; rfl
    rw [e]; simp
  | coe r =>
    have e : (0 : EReal) - (r : EReal) - 1 = ((-r - 1 : ℝ) : EReal) := by
      rw [show (1 : EReal) = ((1 : ℝ) : EReal) from rfl, show (0 : EReal) = ((0 : ℝ) : EReal) from rfl]
      norm_cast; rw [zero_sub]
    rw [e, Ideal.liftRound_coe, row_coe]
    have h : (((min 11 (max 0 ⌊-r - 1⌋)).toNat : ℝ)) = min 11 (max 0 ((⌊-r - 1⌋ : ℤ) : ℝ)) := by
      have h' : (((min 11 (max 0 ⌊-r - 1⌋)).toNat : ℕ) : ℤ) = min 11 (max 0 ⌊-r - 1⌋) := Int.toNat_of_nonneg (by omega)
      rw [← Int.cast_natCast (R := ℝ), h']; push_cast; rfl
    rw [h]
    push_cast
    rfl

/-- The whole groups of four rows above row `n`. -/
theorem quot_eq (n : ℕ) : quot ((n : ℝ) : EReal) = (((n / 4 : ℕ) : ℝ) : EReal) := by
  have h : ⌊(n : ℝ) * (1 / 4)⌋ = ((n / 4 : ℕ) : ℤ) := by
    have e : (n : ℝ) = ((n % 4 + 4 * (n / 4) : ℕ) : ℝ) := by rw [Nat.mod_add_div]
    have h0 : (0 : ℝ) ≤ (n % 4 : ℕ) := Nat.cast_nonneg _
    have h4 : ((n % 4 : ℕ) : ℝ) < 4 := by exact_mod_cast Nat.mod_lt n (by norm_num)
    rw [Nat.cast_add, Nat.cast_mul] at e
    rw [Int.floor_eq_iff, Int.cast_natCast]
    push_cast at e
    constructor <;> linarith
  rw [quot, bits_quarter, ← EReal.coe_mul, Ideal.liftRound_coe, h, Int.cast_natCast]

/-- The variable of the interpolation at row `n`, below lane 84 and from there on. -/
theorem node_eq (n d : ℕ) (hd : d < 128) :
    node ((n : ℝ) : EReal) d = (((if d < 84 then n % 4 else n / 4 : ℕ) : ℝ) : EReal) := by
  have hs : (IntOp.cmpi CmpIPredicate.slt (BitVec.ofNat 32 d) 84#32 = 1) ↔ d < 84 := by
    have : ∀ d : Fin 128, (IntOp.cmpi CmpIPredicate.slt (BitVec.ofNat 32 d) 84#32 = 1) ↔ d.val < 84 := by decide
    exact this ⟨d, hd⟩
  unfold node
  rw [quot_eq, bits_four]
  by_cases h : d < 84
  · rw [if_pos h]
    unfold Scalar.select
    rw [if_pos (hs.2 h), ← EReal.coe_mul, ← EReal.coe_sub]
    have e : (n : ℝ) = ((n % 4 + 4 * (n / 4) : ℕ) : ℝ) := by rw [Nat.mod_add_div]
    congr 1
    conv_lhs => rw [e]
    push_cast; ring
  · rw [if_neg h]
    unfold Scalar.select
    rw [if_neg fun hc => h (hs.1 hc)]

/-! ### The interpolation -/

/-- Through the values of the first two tables, the last being nothing. -/
theorem cubic_low (t0 t1 r0 r1 : ℝ) (n : ℕ) (hn : n < 4) :
    cubic ((1 / 6 : ℝ) : EReal) t0 t1 r0 r1 0 0 ((n : ℝ) : EReal)
      = (((if n < 2 then t0 else t1) + (if n = 0 ∨ n = 3 then r0 else r1) : ℝ) : EReal) := by
  unfold cubic
  simp only [bits_three, bits_two, bits_five, bits_four, bits_half, bits_neg_eleven, bits_eighteen, bits_nine,
    bits_neg_three]
  rw [show (0 : EReal) = ((0 : ℝ) : EReal) from rfl]
  simp only [← EReal.coe_add, ← EReal.coe_sub, ← EReal.coe_mul]
  congr 1
  interval_cases n <;> norm_num <;> ring

/-- Through the values of the last table, the others being nothing. -/
theorem cubic_high (o0 o1 : ℝ) (n : ℕ) (hn : n < 3) :
    cubic ((1 / 6 : ℝ) : EReal) 0 0 0 0 o0 o1 ((n : ℝ) : EReal)
      = (((if n = 0 then (o0 + o1) / 2 else if n = 1 then o0 else o1 : ℝ)) : EReal) := by
  unfold cubic
  simp only [bits_three, bits_two, bits_five, bits_four, bits_half, bits_neg_eleven, bits_eighteen, bits_nine,
    bits_neg_three]
  rw [show (0 : EReal) = ((0 : ℝ) : EReal) from rfl]
  simp only [← EReal.coe_add, ← EReal.coe_sub, ← EReal.coe_mul]
  congr 1
  interval_cases n <;> norm_num <;> ring

/-! ### The wave -/

/-- The lane's number modulo 64 as an integer. -/
theorem laneWord_toInt (d : ℕ) (hd : d < 128) : (laneWord d).toInt = ((d % 64 : ℕ) : ℤ) := by
  have : ∀ d : Fin 128, (laneWord d.val).toInt = ((d.val % 64 : ℕ) : ℤ) := by decide
  exact this ⟨d, hd⟩

/-- The constant that turns a lane into the logarithm of its frequency. -/
def logBase : EReal := (((-(Real.log 10000)) * 64⁻¹ : ℝ) : EReal)

/-- The constant that turns radians into turns. -/
def logTurn : EReal := ((-(Real.log (2 * Real.pi)) : ℝ) : EReal)

/-- The frequency of the lanes `k` and `64 + k`. -/
def freq (k : ℕ) : ℝ := 1 / (10000 : ℝ) ^ ((k : ℝ) / 64)

/-- The reference's angle at a whole number `s` and a lane, in radians, and the sine or cosine of it. -/
def waveR (s : ℝ) (d : ℕ) : ℝ := if d < 64 then Real.sin (s * freq d) else Real.cos (s * freq (d - 64))

/-- The kernel's frequency in turns is the reference's in radians over a full turn. -/
theorem exp_freq (d : ℕ) (hd : d < 128) :
    Ideal.exp (FloatOps.sitofp (F := Ideal) FTy.f32 (laneWord d) * logBase + logTurn)
      = ((freq (d % 64) / (2 * Real.pi) : ℝ) : EReal) := by
  have hs : FloatOps.sitofp (F := Ideal) FTy.f32 (laneWord d) = ((((laneWord d).toInt : ℤ) : ℝ) : EReal) := rfl
  rw [hs, laneWord_toInt d hd, logBase, logTurn, ← EReal.coe_mul, ← EReal.coe_add, Ideal.exp_coe]
  congr 1
  rw [Real.exp_add, Real.exp_neg, Real.exp_log (by positivity), freq, Real.rpow_def_of_pos (by norm_num), one_div,
    ← Real.exp_neg, div_eq_mul_inv]
  congr 2
  rw [Int.cast_natCast]
  ring

/-- Whether a lane is one of the cosine's. -/
theorem sge_iff (d : ℕ) (hd : d < 128) : IntOp.cmpi CmpIPredicate.sge (BitVec.ofNat 32 d) 64#32 = 1 ↔ 64 ≤ d := by
  have : ∀ d : Fin 128, (IntOp.cmpi CmpIPredicate.sge (BitVec.ofNat 32 d) 64#32 = 1) ↔ 64 ≤ d.val := by decide
  exact this ⟨d, hd⟩

/-- The angle in turns at a whole number. -/
theorem turns_coe (s : ℝ) (d : ℕ) (hd : d < 128) :
    turns logBase logTurn s d = ((s * (freq (d % 64) / (2 * Real.pi)) + (if 64 ≤ d then 1 / 4 else 0) : ℝ) : EReal) := by
  unfold turns Scalar.select
  rw [exp_freq d hd, bits_quarter, ← EReal.coe_mul]
  by_cases h : 64 ≤ d
  · rw [if_pos ((sge_iff d hd).2 h), if_pos h, ← EReal.coe_add]
  · rw [if_neg fun hc => h ((sge_iff d hd).1 hc), if_neg h, add_zero, add_zero]

/-- The angle in turns at `+∞`. -/
theorem turns_top (d : ℕ) (hd : d < 128) : turns logBase logTurn ⊤ d = ⊤ := by
  unfold turns Scalar.select
  rw [exp_freq d hd, bits_quarter, EReal.top_mul_coe_of_pos (by unfold freq; positivity)]
  split
  · exact EReal.top_add_coe _
  · rw [add_zero]

/-- The sine of the angle in turns is the reference's sine or cosine. -/
theorem sin_turns (s : ℝ) (d : ℕ) (hd : d < 128) :
    Real.sin (2 * Real.pi * (s * (freq (d % 64) / (2 * Real.pi)) + (if 64 ≤ d then 1 / 4 else 0))) = waveR s d := by
  have hp : Real.pi ≠ 0 := Real.pi_ne_zero
  unfold waveR
  by_cases h : 64 ≤ d
  · rw [if_pos h, if_neg (by omega), show d % 64 = d - 64 by omega,
      show 2 * Real.pi * (s * (freq (d - 64) / (2 * Real.pi)) + 1 / 4) = s * freq (d - 64) + Real.pi / 2 by
        field_simp; ring,
      Real.sin_add_pi_div_two]
  · rw [if_neg h, if_pos (by omega), show d % 64 = d by omega,
      show 2 * Real.pi * (s * (freq d / (2 * Real.pi)) + 0) = s * freq d by field_simp; ring]

/-- A real is within a half of the whole number that it is rounded to. -/
theorem abs_sub_roundHalfEven (z : ℝ) : |z - Ideal.roundHalfEven z| ≤ 1 / 2 := by
  have h0 := Int.floor_le z
  have h1 := Int.lt_floor_add_one z
  unfold Ideal.roundHalfEven
  dsimp only
  rw [abs_le]
  split_ifs <;> push_cast <;> constructor <;> linarith

/-- At a whole number the fraction of a turn is a real within the half turn whose sine is the reference's wave. -/
theorem frac_coe (s : ℝ) (d : ℕ) (hd : d < 128) :
    ∃ y : ℝ, frac logBase logTurn s d = y ∧ |y| ≤ 1 / 2 ∧ Real.sin (2 * Real.pi * y) = waveR s d := by
  refine ⟨_, ?_, abs_sub_roundHalfEven (s * (freq (d % 64) / (2 * Real.pi)) + (if 64 ≤ d then 1 / 4 else 0)), ?_⟩
  · rw [frac, turns_coe s d hd, Ideal.liftRound_coe, ← EReal.coe_sub]
  · rw [← sin_turns s d hd, mul_sub, mul_comm (2 * Real.pi) ((Ideal.roundHalfEven _ : ℤ) : ℝ), Real.sin_sub_int_mul_two_pi]

/-- At `+∞` it is not a number. -/
theorem frac_top (d : ℕ) (hd : d < 128) : frac logBase logTurn ⊤ d = ⊥ := by
  rw [frac, turns_top d hd, Ideal.liftRound_top]; rfl

/-! ### The whole number -/

/-- At a negative position the whole number is negative. -/
theorem step_neg (x : EReal) (hx : x < 0) : step x < 0 := by
  rw [step, if_pos hx, idx_eq, show (1 : EReal) = ((1 : ℝ) : EReal) from rfl, show (0 : EReal) = ((0 : ℝ) : EReal) from rfl,
    ← EReal.coe_sub, ← EReal.coe_sub, EReal.coe_lt_coe_iff]
  have : (0 : ℝ) ≤ row x := Nat.cast_nonneg _
  linarith

/-- At any other position it is the position rounded down, which is not negative. -/
theorem step_nonneg (x : EReal) (hx : ¬ x < 0) : ¬ step x < 0 := by
  rw [step, if_neg hx]
  induction x with
  | bot => exact absurd EReal.bot_lt_zero hx
  | top => simp
  | coe r =>
    have hr : 0 ≤ r := by
      by_contra hc
      exact hx (by exact_mod_cast not_le.1 hc)
    rw [Ideal.liftRound_coe]
    have : (0 : ℝ) ≤ ⌊r⌋ := by exact_mod_cast Int.floor_nonneg.2 hr
    rw [not_lt]
    exact_mod_cast this

end Cert.Elt

end
-- ==== Proof.Block.lean ====
/- UNTRUSTED — one block of the kernel: what the block holds at an index is the element function of Elt.lean at the position
   and the lane. -/
module

public import proofs.«01_k».proof.Proof.Gen.KernelIdeal.Frame
public import proofs.«01_k».proof.Proof.Elt
public import Idealize.ShloMosaic.Lib.Pipeline.Value

@[expose] public section

set_option maxRecDepth 16384

noncomputable section

open Idealize.ShloMosaic Idealize.ShloMosaic.TcCoe Idealize.SL.Sem

namespace Cert.KernelIdeal.Block

open Cert.KernelIdeal Cert.KernelIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- The wave is the kernel's polynomial of degree 7. -/
def wave (y : EReal) : EReal := Elt.poly y

/-- The element function with this program's constants. -/
def elt (x t0 t1 r0 r1 o0 o1 : EReal) (d : ℕ) : EReal :=
  Elt.out (Named.named (F := Ideal) κ "neg_log_base_div_half" (φ := .f32) 0xBE135D8E#32)
    (Named.named (F := Ideal) κ "neg_log_two_pi" (φ := .f32) 0xBFEB3F8E#32)
    (Named.named (F := Ideal) κ "sixth" (φ := .f32) 0x3E2AAAAB#32) wave x t0 t1 r0 r1 o0 o1 d

/-- The block at a position and a lane. -/
theorem out_apply (x : FVec Ideal S512x50 .f32) (t r o : FVec Ideal S2x128 .f32) (a : Fin 512) (b : Fin 50) (d : Fin 128) :
    out0_4 (F := Ideal) x t r o (ix3 a b d)
      = elt (x (ix2 a b)) (t (ix2 0 d)) (t (ix2 1 d)) (r (ix2 0 d)) (r (ix2 1 d)) (o (ix2 0 d)) (o (ix2 1 d)) d.val := by
  unfold_out out0_4
  rw [View.canon_unit_zero hz3, View.ld_unit_zero hz2]
  unfold_payloads
  pointwise []
  rfl

/-- The three constants are the reals that they stand for. -/
theorem elt_eq (x t0 t1 r0 r1 o0 o1 : EReal) (d : ℕ) :
    elt x t0 t1 r0 r1 o0 o1 d
      = Elt.out Elt.logBase Elt.logTurn ((1 / 6 : ℝ) : EReal) wave x t0 t1 r0 r1 o0 o1 d := by
  unfold elt
  rw [show Named.named (F := Ideal) κ "neg_log_base_div_half" (φ := .f32) 0xBE135D8E#32 = Elt.logBase from
      IdealRules.named_const.ideal_named_scalar _ _ _ _ rfl,
    show Named.named (F := Ideal) κ "neg_log_two_pi" (φ := .f32) 0xBFEB3F8E#32 = Elt.logTurn from
      IdealRules.named_const.ideal_named_scalar _ _ _ _ rfl,
    show Named.named (F := Ideal) κ "sixth" (φ := .f32) 0x3E2AAAAB#32 = ((1 / 6 : ℝ) : EReal) from
      IdealRules.named_const.ideal_named_scalar _ _ _ _ rfl]

end Cert.KernelIdeal.Block

end
-- ==== Proof.Padded.lean ====
module

public import proofs.«01_k».proof.Proof.Elt

/-!
# The padded tables

Before the region starts, each of the three small tables is padded with zeros to 128 lanes: the first table fills
lanes 0 to 41, the second lanes 42 to 83 and the third lanes 84 to 127.
-/

@[expose] public section

noncomputable section

namespace Cert.Padded

open Idealize.ShloMosaic

/-- The zero that the host line pads with. -/
theorem zero_eq : (FloatOps.sitofp (F := Ideal) FTy.f32 (0#32) : EReal) = 0 := by
  show (((0#32 : BitVec 32).toInt : ℝ) : EReal) = 0
  simp

/-- The first table over 128 lanes. -/
def low (t : (⟨2, ![2, 42]⟩ : Shape).Idx → EReal) (k : Fin 2) (d : Fin 128) : EReal :=
  if h : d.val < 42 then t (ix2 k ⟨d.val, h⟩) else 0

/-- The second table over 128 lanes. -/
def mid (r : (⟨2, ![2, 42]⟩ : Shape).Idx → EReal) (k : Fin 2) (d : Fin 128) : EReal :=
  if h : 42 ≤ d.val ∧ d.val - 42 < 42 then r (ix2 k ⟨d.val - 42, h.2⟩) else 0

/-- The third table over 128 lanes. -/
def high (o : (⟨2, ![2, 44]⟩ : Shape).Idx → EReal) (k : Fin 2) (d : Fin 128) : EReal :=
  if h : 84 ≤ d.val ∧ d.val - 84 < 44 then o (ix2 k ⟨d.val - 84, h.2⟩) else 0

/-- What the kernel's element is in terms of the four arguments: position `(a, b)`, lane `d`. -/
def elt (wave : EReal → EReal) (x : (⟨2, ![16384, 50]⟩ : Shape).Idx → EReal) (t r : (⟨2, ![2, 42]⟩ : Shape).Idx → EReal)
    (o : (⟨2, ![2, 44]⟩ : Shape).Idx → EReal) (a : Fin 16384) (b : Fin 50) (d : Fin 128) : EReal :=
  Elt.out Elt.logBase Elt.logTurn ((1 / 6 : ℝ) : EReal) wave (x (ix2 a b)) (low t 0 d) (low t 1 d) (mid r 0 d) (mid r 1 d)
    (high o 0 d) (high o 1 d) d.val

end Cert.Padded
-- ==== Proof.Array.lean ====
module

public import proofs.«01_k».proof.Proof.Block
public import proofs.«01_k».proof.Proof.Padded
public import Idealize.ShloMosaic.Lib.Claim
public import Idealize.ShloMosaic.Lib.Pipeline.ValueKit
public import Idealize.ShloMosaic.Lib.StableHlo.ReadAt

/-!
# What the kernel's result array holds

The region writes one block of 512 rows at each of its 32 points; together the blocks fill the array, and the host line
after the region widens it.  This module reads the three padded tables, the array after the region and the result.
-/

@[expose] public section

set_option maxRecDepth 16384

noncomputable section

namespace Cert.KernelIdeal.Array

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The region finds the first table padded. -/
theorem low_eq (c : Dev nD) (k : Fin 2) (d : Fin 128) :
    V m c main_v0 (ix2 k d) = Padded.low (m ((c : Thread nD τ).loc main_arg1)) k d := by
  simp only [V, V0, hostOps0, hostOps0_1, hostOps0_2, hostOps0_3, hostOps0_4, hostOps0_5, List.flatten_cons,
    List.flatten_nil, List.append_nil, List.cons_append, List.nil_append]
  after_reads_at
  rw [Padded.zero_eq]
  rfl

/-- The region finds the second table padded. -/
theorem mid_eq (c : Dev nD) (k : Fin 2) (d : Fin 128) :
    V m c main_v1 (ix2 k d) = Padded.mid (m ((c : Thread nD τ).loc main_arg2)) k d := by
  simp only [V, V0, hostOps0, hostOps0_1, hostOps0_2, hostOps0_3, hostOps0_4, hostOps0_5, List.flatten_cons,
    List.flatten_nil, List.append_nil, List.cons_append, List.nil_append]
  after_reads_at
  rw [Padded.zero_eq]
  rfl

/-- The region finds the third table padded. -/
theorem high_eq (c : Dev nD) (k : Fin 2) (d : Fin 128) :
    V m c main_v2 (ix2 k d) = Padded.high (m ((c : Thread nD τ).loc main_arg3)) k d := by
  simp only [V, V0, hostOps0, hostOps0_1, hostOps0_2, hostOps0_3, hostOps0_4, hostOps0_5, List.flatten_cons,
    List.flatten_nil, List.append_nil, List.cons_append, List.nil_append]
  after_reads_at
  rw [Padded.zero_eq]
  rfl

/-- The result array in terms of the four arguments. -/
def held (c : Dev nD) : S16384x50x128.Idx → EReal := fun i =>
  Padded.elt Block.wave (m ((c : Thread nD τ).loc main_arg0)) (m ((c : Thread nD τ).loc main_arg1))
    (m ((c : Thread nD τ).loc main_arg2)) (m ((c : Thread nD τ).loc main_arg3)) (i 0) (i 1) (i 2)

/-- Where the blocks lie: the result's blocks advance with those of the positions, and each table is one block. -/
theorem places : ∀ t : Fin cfg0.grid.N,
    (win0_0.index t 0 = win0_4.index t 0 ∧ win0_0.index t 1 = 0 ∧ win0_4.index t 1 = 0 ∧ win0_4.index t 2 = 0)
    ∧ (win0_1.index t 0 = 0 ∧ win0_1.index t 1 = 0) ∧ (win0_2.index t 0 = 0 ∧ win0_2.index t 1 = 0)
    ∧ win0_3.index t 0 = 0 ∧ win0_3.index t 1 = 0 := by decide +kernel

/-- The blocks fill the array with `held`. -/
theorem final (c : Dev nD) : (dats m 0 c).arrAt 4 cfg0.N = held m c := by
  refine (dats m 0 c).arrAt_eq_of_covers 4 _ (by decide +kernel) fun t hf y => ?_
  blk_simp
  rw [after0_4]
  obtain ⟨a, b, d, rfl⟩ : ∃ (a : Fin 512) (b : Fin 50) (d : Fin 128), y = ix3 a b d := ⟨_, _, _, ValueIdx.eq_ix3 y⟩
  obtain ⟨⟨p0, p1, p2, p3⟩, ⟨q0, q1⟩, ⟨u0, u1⟩, w0, w1⟩ := places t
  have h0 : iblk m c 0 t (ix2 a b) = m ((c : Thread nD τ).loc main_arg0)
      (ix2 (((win0_4.blk t).view.emb (ix3 a b d)) 0) (((win0_4.blk t).view.emb (ix3 a b d)) 1)) := by
    refine Eq.trans ?_ (congrFun (V_main_arg0 m c) _)
    blk_ext [iblk] <;> omega
  have h2 : ((win0_4.blk t).view.emb (ix3 a b d)) 2 = d := by
    apply Fin.ext
    blk_simp
    omega
  have h1 (k : Fin 2) : iblk m c 1 t (ix2 k d) = V m c main_v0 (ix2 k d) := by blk_ext [iblk] <;> omega
  have h3 (k : Fin 2) : iblk m c 2 t (ix2 k d) = V m c main_v1 (ix2 k d) := by blk_ext [iblk] <;> omega
  have h4 (k : Fin 2) : iblk m c 3 t (ix2 k d) = V m c main_v2 (ix2 k d) := by blk_ext [iblk] <;> omega
  rw [Block.out_apply, Block.elt_eq, h0, h1, h1, h3, h3, h4, h4, low_eq, low_eq, mid_eq, mid_eq, high_eq, high_eq]
  unfold held Padded.elt
  rw [h2]

/-- Every run of the kernel leaves `held` in the result and the arguments unchanged. -/
theorem run : θ_run (nD := nD) (τ := τ) defs (onTc (τ := τ) (main (F := Ideal))) ⟨m, fun _ => 0, ρ⟩ (fun r => ∀ c : Dev nD,
      r.2.mem ((c : Thread nD τ).loc main_v4) = held m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  run_from run_main m ρ
  · unfold Pipeline.afterTail₀
    simp only [hostOps1, List.flatten_cons, List.flatten_nil, List.append_nil]
    after_reads_simp
    exact (Pipeline.withArrays_arr (τ := τ) (cfgs 0).spec launch0.win.arr_inj c (V0 m c)
      (fun w => (dats m 0 c).arrAt w (cfgs 0).N) 4).trans (final m c)
  · exact W_main_arg1 m (dats m) c
  · exact W_main_arg2 m (dats m) c
  · exact W_main_arg3 m (dats m) c

end Cert.KernelIdeal.Array
-- ==== Proof.BlockSine.lean ====
/- UNTRUSTED — one block of the kernel with the sine itself: what the block holds at an index is the element function of Elt.lean at the position
   and the lane. -/
module

public import proofs.«01_k».proof.Proof.Gen.KernelSineIdeal.Frame
public import proofs.«01_k».proof.Proof.Elt
public import Idealize.ShloMosaic.Lib.Pipeline.Value

@[expose] public section

set_option maxRecDepth 16384

noncomputable section

open Idealize.ShloMosaic Idealize.ShloMosaic.TcCoe Idealize.SL.Sem

namespace Cert.KernelSineIdeal.Block

open Cert.KernelSineIdeal Cert.KernelSineIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- The wave is the sine of the fraction times the constant for a full turn. -/
def wave (y : EReal) : EReal := Ideal.sin (y * Named.named (F := Ideal) κ "two_pi" (φ := .f32) 0x40C90FDB#32)

/-- The element function with this program's constants. -/
def elt (x t0 t1 r0 r1 o0 o1 : EReal) (d : ℕ) : EReal :=
  Elt.out (Named.named (F := Ideal) κ "neg_log_base_div_half" (φ := .f32) 0xBE135D8E#32)
    (Named.named (F := Ideal) κ "neg_log_two_pi" (φ := .f32) 0xBFEB3F8E#32)
    (Named.named (F := Ideal) κ "sixth" (φ := .f32) 0x3E2AAAAB#32) wave x t0 t1 r0 r1 o0 o1 d

/-- The block at a position and a lane. -/
theorem out_apply (x : FVec Ideal S512x50 .f32) (t r o : FVec Ideal S2x128 .f32) (a : Fin 512) (b : Fin 50) (d : Fin 128) :
    out0_4 (F := Ideal) x t r o (ix3 a b d)
      = elt (x (ix2 a b)) (t (ix2 0 d)) (t (ix2 1 d)) (r (ix2 0 d)) (r (ix2 1 d)) (o (ix2 0 d)) (o (ix2 1 d)) d.val := by
  unfold_out out0_4
  rw [View.canon_unit_zero hz3, View.ld_unit_zero hz2]
  unfold_payloads
  pointwise []
  rfl

/-- The three constants are the reals that they stand for. -/
theorem elt_eq (x t0 t1 r0 r1 o0 o1 : EReal) (d : ℕ) :
    elt x t0 t1 r0 r1 o0 o1 d
      = Elt.out Elt.logBase Elt.logTurn ((1 / 6 : ℝ) : EReal) wave x t0 t1 r0 r1 o0 o1 d := by
  unfold elt
  rw [show Named.named (F := Ideal) κ "neg_log_base_div_half" (φ := .f32) 0xBE135D8E#32 = Elt.logBase from
      IdealRules.named_const.ideal_named_scalar _ _ _ _ rfl,
    show Named.named (F := Ideal) κ "neg_log_two_pi" (φ := .f32) 0xBFEB3F8E#32 = Elt.logTurn from
      IdealRules.named_const.ideal_named_scalar _ _ _ _ rfl,
    show Named.named (F := Ideal) κ "sixth" (φ := .f32) 0x3E2AAAAB#32 = ((1 / 6 : ℝ) : EReal) from
      IdealRules.named_const.ideal_named_scalar _ _ _ _ rfl]

/-- The wave is the sine of the fraction of a full turn. -/
theorem wave_eq (y : EReal) : wave y = Ideal.sin (y * ((2 * Real.pi : ℝ) : EReal)) := by
  unfold wave
  rw [show Named.named (F := Ideal) κ "two_pi" (φ := .f32) 0x40C90FDB#32 = ((2 * Real.pi : ℝ) : EReal) from
      IdealRules.named_const.ideal_named_scalar _ _ _ _ rfl]

end Cert.KernelSineIdeal.Block

end
-- ==== Proof.ArraySine.lean ====
module

public import proofs.«01_k».proof.Proof.BlockSine
public import proofs.«01_k».proof.Proof.Padded
public import Idealize.ShloMosaic.Lib.Claim
public import Idealize.ShloMosaic.Lib.Pipeline.ValueKit
public import Idealize.ShloMosaic.Lib.StableHlo.ReadAt

/-!
# What the result array of the kernel with the sine holds

The region writes one block of 512 rows at each of its 32 points; together the blocks fill the array, and the host line
after the region widens it.  This module reads the three padded tables, the array after the region and the result.
-/

@[expose] public section

set_option maxRecDepth 16384

noncomputable section

namespace Cert.KernelSineIdeal.Array

open Idealize.ShloMosaic Idealize.ShloMosaic.TcCoe Idealize.SL.Sem
open Cert.KernelSineIdeal Cert.KernelSineIdeal.Gen

variable (m : (ℓ : Loc nD τ sig) → Buf (Elt Ideal) ℓ) (ρ : Dev nD → PrngReg)

/-- The region finds the first table padded. -/
theorem low_eq (c : Dev nD) (k : Fin 2) (d : Fin 128) :
    V m c main_v0 (ix2 k d) = Padded.low (m ((c : Thread nD τ).loc main_arg1)) k d := by
  simp only [V, V0, hostOps0, hostOps0_1, hostOps0_2, hostOps0_3, hostOps0_4, hostOps0_5, List.flatten_cons,
    List.flatten_nil, List.append_nil, List.cons_append, List.nil_append]
  after_reads_at
  rw [Padded.zero_eq]
  rfl

/-- The region finds the second table padded. -/
theorem mid_eq (c : Dev nD) (k : Fin 2) (d : Fin 128) :
    V m c main_v1 (ix2 k d) = Padded.mid (m ((c : Thread nD τ).loc main_arg2)) k d := by
  simp only [V, V0, hostOps0, hostOps0_1, hostOps0_2, hostOps0_3, hostOps0_4, hostOps0_5, List.flatten_cons,
    List.flatten_nil, List.append_nil, List.cons_append, List.nil_append]
  after_reads_at
  rw [Padded.zero_eq]
  rfl

/-- The region finds the third table padded. -/
theorem high_eq (c : Dev nD) (k : Fin 2) (d : Fin 128) :
    V m c main_v2 (ix2 k d) = Padded.high (m ((c : Thread nD τ).loc main_arg3)) k d := by
  simp only [V, V0, hostOps0, hostOps0_1, hostOps0_2, hostOps0_3, hostOps0_4, hostOps0_5, List.flatten_cons,
    List.flatten_nil, List.append_nil, List.cons_append, List.nil_append]
  after_reads_at
  rw [Padded.zero_eq]
  rfl

/-- The result array in terms of the four arguments. -/
def held (c : Dev nD) : S16384x50x128.Idx → EReal := fun i =>
  Padded.elt Block.wave (m ((c : Thread nD τ).loc main_arg0)) (m ((c : Thread nD τ).loc main_arg1))
    (m ((c : Thread nD τ).loc main_arg2)) (m ((c : Thread nD τ).loc main_arg3)) (i 0) (i 1) (i 2)

/-- Where the blocks lie: the result's blocks advance with those of the positions, and each table is one block. -/
theorem places : ∀ t : Fin cfg0.grid.N,
    (win0_0.index t 0 = win0_4.index t 0 ∧ win0_0.index t 1 = 0 ∧ win0_4.index t 1 = 0 ∧ win0_4.index t 2 = 0)
    ∧ (win0_1.index t 0 = 0 ∧ win0_1.index t 1 = 0) ∧ (win0_2.index t 0 = 0 ∧ win0_2.index t 1 = 0)
    ∧ win0_3.index t 0 = 0 ∧ win0_3.index t 1 = 0 := by decide +kernel

/-- The blocks fill the array with `held`. -/
theorem final (c : Dev nD) : (dats m 0 c).arrAt 4 cfg0.N = held m c := by
  refine (dats m 0 c).arrAt_eq_of_covers 4 _ (by decide +kernel) fun t hf y => ?_
  blk_simp
  rw [after0_4]
  obtain ⟨a, b, d, rfl⟩ : ∃ (a : Fin 512) (b : Fin 50) (d : Fin 128), y = ix3 a b d := ⟨_, _, _, ValueIdx.eq_ix3 y⟩
  obtain ⟨⟨p0, p1, p2, p3⟩, ⟨q0, q1⟩, ⟨u0, u1⟩, w0, w1⟩ := places t
  have h0 : iblk m c 0 t (ix2 a b) = m ((c : Thread nD τ).loc main_arg0)
      (ix2 (((win0_4.blk t).view.emb (ix3 a b d)) 0) (((win0_4.blk t).view.emb (ix3 a b d)) 1)) := by
    refine Eq.trans ?_ (congrFun (V_main_arg0 m c) _)
    blk_ext [iblk] <;> omega
  have h2 : ((win0_4.blk t).view.emb (ix3 a b d)) 2 = d := by
    apply Fin.ext
    blk_simp
    omega
  have h1 (k : Fin 2) : iblk m c 1 t (ix2 k d) = V m c main_v0 (ix2 k d) := by blk_ext [iblk] <;> omega
  have h3 (k : Fin 2) : iblk m c 2 t (ix2 k d) = V m c main_v1 (ix2 k d) := by blk_ext [iblk] <;> omega
  have h4 (k : Fin 2) : iblk m c 3 t (ix2 k d) = V m c main_v2 (ix2 k d) := by blk_ext [iblk] <;> omega
  rw [Block.out_apply, Block.elt_eq, h0, h1, h1, h3, h3, h4, h4, low_eq, low_eq, mid_eq, mid_eq, high_eq, high_eq]
  unfold held Padded.elt
  rw [h2]

/-- Every run of the kernel with the sine leaves `held` in the result and the arguments unchanged. -/
theorem run : θ_run (nD := nD) (τ := τ) defs (onTc (τ := τ) (main (F := Ideal))) ⟨m, fun _ => 0, ρ⟩ (fun r => ∀ c : Dev nD,
      r.2.mem ((c : Thread nD τ).loc main_v4) = held m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  run_from run_main m ρ
  · unfold Pipeline.afterTail₀
    simp only [hostOps1, List.flatten_cons, List.flatten_nil, List.append_nil]
    after_reads_simp
    exact (Pipeline.withArrays_arr (τ := τ) (cfgs 0).spec launch0.win.arr_inj c (V0 m c)
      (fun w => (dats m 0 c).arrAt w (cfgs 0).N) 4).trans (final m c)
  · exact W_main_arg1 m (dats m) c
  · exact W_main_arg2 m (dats m) c
  · exact W_main_arg3 m (dats m) c

end Cert.KernelSineIdeal.Array
-- ==== Proof.SineBound.lean ====
/- UNTRUSTED — the size of the error of the kernel's odd polynomial of degree 7 against the sine of a full turn,
   over the half turn on either side of zero. The sine is first replaced by its Taylor polynomial of degree 13; what
   is left is a polynomial with rational coefficients, which is bounded cell by cell. -/
module

public import Mathlib.Analysis.Complex.Exponential
public import Mathlib.Analysis.Complex.Trigonometric
public import Mathlib.Analysis.SpecialFunctions.Trigonometric.Basic

@[expose] public section

noncomputable section

namespace Cert.SineBound

/-- A polynomial with integer coefficients, lowest degree first, at a real. -/
def horner : List ℤ → ℝ → ℝ
  | [], _ => 0
  | c :: l, h => c + h * horner l h

/-- `m + h` times a polynomial in `h`, plus `c`. -/
def mulAdd (m : ℤ) (l : List ℤ) (c : ℤ) : List ℤ := go c l
where
  /-- The coefficients, with `c` to be added to the first of them. -/
  go (c : ℤ) : List ℤ → List ℤ
    | [] => [c]
    | x :: l => (c + m * x) :: go x l

/-- The coefficients in `h` of the polynomial at `m + h`. -/
def shift (m : ℤ) : List ℤ → List ℤ
  | [] => []
  | c :: l => mulAdd m (shift m l) c

/-- The sum of the coefficients' absolute values. -/
def size : List ℤ → ℤ
  | [] => 0
  | c :: l => |c| + size l

theorem horner_go (m : ℤ) (h : ℝ) : ∀ (l : List ℤ) (c : ℤ), horner (mulAdd.go m c l) h = c + (m + h) * horner l h
  | [], c => by simp [mulAdd.go, horner]
  | x :: l, c => by rw [mulAdd.go, horner, horner_go m h l x, horner]; push_cast; ring

/-- The shifted polynomial at `h` is the polynomial at `m + h`. -/
theorem horner_shift (m : ℤ) (h : ℝ) : ∀ l : List ℤ, horner (shift m l) h = horner l (m + h)
  | [] => rfl
  | c :: l => by rw [shift, mulAdd, horner_go, horner_shift m h l, horner]

/-- Within one unit of zero a polynomial is at most the sum of its coefficients' absolute values. -/
theorem abs_horner_le (h : ℝ) (hh : |h| ≤ 1) : ∀ l : List ℤ, |horner l h| ≤ size l
  | [] => by simp [horner, size]
  | c :: l => by
    have ih := abs_horner_le h hh l
    rw [horner, size]
    push_cast
    refine (abs_add_le _ _).trans (add_le_add le_rfl ?_)
    rw [abs_mul]
    exact (mul_le_of_le_one_left (abs_nonneg _) hh).trans ih

/-- A polynomial bounded on every cell `[m, m + 1]`, `m < n`, by the size of its coefficients there is bounded on
    `[0, n)`. -/
theorem abs_horner_cells (l : List ℤ) (n : ℕ) (B : ℤ) (hB : ∀ m : Fin n, size (shift (m.val : ℤ) l) ≤ B) (z : ℝ)
    (h0 : 0 ≤ z) (h1 : z < n) : |horner l z| ≤ B := by
  have hf : ⌊z⌋₊ < n := (Nat.floor_lt h0).2 h1
  have e : z = ((⌊z⌋₊ : ℤ) : ℝ) + (z - ⌊z⌋₊) := by push_cast; ring
  have hz : |z - ⌊z⌋₊| ≤ 1 := by
    rw [abs_le]; constructor <;> linarith [Nat.floor_le h0, Nat.lt_floor_add_one z]
  rw [e, ← horner_shift]
  exact (abs_horner_le _ hz _).trans (by exact_mod_cast hB ⟨_, hf⟩)

/-- The sine's Taylor polynomial of degree 13, in the form in which its coefficients show. -/
def taylor (u : ℝ) : ℝ :=
  u - u ^ 3 / 6 + u ^ 5 / 120 - u ^ 7 / 5040 + u ^ 9 / 362880 - u ^ 11 / 39916800 + u ^ 13 / 6227020800

/-- On `[0, 4]` the sine is its Taylor polynomial up to twice the next term. -/
theorem sin_taylor (u : ℝ) (h0 : 0 ≤ u) (h1 : u ≤ 4) : |Real.sin u - taylor u| ≤ u ^ 15 / 653837184000 := by
  have hn : ‖(u : ℂ) * Complex.I‖ = u := by
    rw [norm_mul, Complex.norm_I, mul_one, Complex.norm_real, Real.norm_of_nonneg h0]
  have h := Complex.exp_bound' (x := (u : ℂ) * Complex.I) (n := 15) (by rw [hn]; norm_num; linarith)
  rw [hn] at h
  have hI : (Complex.exp ((u : ℂ) * Complex.I)
      - ∑ m ∈ Finset.range 15, ((u : ℂ) * Complex.I) ^ m / (m.factorial : ℂ)).im = Real.sin u - taylor u := by
    have hs : ∑ m ∈ Finset.range 15, ((u : ℂ) * Complex.I) ^ m / (m.factorial : ℂ)
        = ((1 - u ^ 2 / 2 + u ^ 4 / 24 - u ^ 6 / 720 + u ^ 8 / 40320 - u ^ 10 / 3628800 + u ^ 12 / 479001600
            - u ^ 14 / 87178291200 : ℝ) : ℂ) + (taylor u : ℂ) * Complex.I := by
      have i2 : Complex.I ^ 2 = -1 := Complex.I_sq
      simp only [Finset.sum_range_succ, Finset.sum_range_zero, mul_pow, Nat.factorial, taylor]
      push_cast
      have i3 : Complex.I ^ 3 = -Complex.I := by rw [pow_succ, i2]; ring
      have i4 : Complex.I ^ 4 = 1 := by rw [show 4 = 2 * 2 from rfl, pow_mul, i2]; norm_num
      have hi : ∀ k : ℕ, Complex.I ^ (k + 4) = Complex.I ^ k := fun k => by rw [pow_add, i4, mul_one]
      simp only [hi, i2, i3, pow_zero, pow_one]
      ring
    rw [hs, Complex.sub_im, Complex.exp_ofReal_mul_I_im, Complex.add_im, Complex.ofReal_im, Complex.mul_im]
    simp
  rw [← hI]
  refine (Complex.abs_im_le_norm _).trans (h.trans (le_of_eq ?_))
  norm_num [Nat.factorial]
  ring

/-- The kernel's polynomial, with the coefficients that its four constants are. -/
def poly (y : ℝ) : ℝ :=
  (((-7351671 / 131072 * (y * y) + 10214607 / 131072) * (y * y) + -10772501 / 262144) * (y * y) + 6583629 / 1048576) * y

/-- What is left of the polynomial less the sine's Taylor polynomial, its coefficients in millionths and rounded,
    times `512 ^ 13`, in units of a 512th of a turn. -/
def residue : List ℤ :=
  [0, -4547 * 512 ^ 12, 0, 247872 * 512 ^ 10, 0, -3673982 * 512 ^ 8, 0, 20617061 * 512 ^ 6, 0, -42058694 * 512 ^ 4, 0,
    15094643 * 512 ^ 2, 0, -3819953]

/-- The residue on each cell. -/
theorem residue_cells : ∀ m : Fin 257, size (shift (m.val : ℤ) residue) ≤ 400 * 512 ^ 13 := by decide +kernel

/-- The residue on the half turn: at most 400 millionths. -/
theorem residue_le (y : ℝ) (h0 : 0 ≤ y) (h1 : y ≤ 1 / 2) :
    |-4547 * y + 247872 * y ^ 3 - 3673982 * y ^ 5 + 20617061 * y ^ 7 - 42058694 * y ^ 9 + 15094643 * y ^ 11
      - 3819953 * y ^ 13| ≤ 400 := by
  have h := abs_horner_cells residue 257 (400 * 512 ^ 13) residue_cells (512 * y) (by linarith) (by norm_num; linarith)
  have e : horner residue (512 * y) = (-4547 * y + 247872 * y ^ 3 - 3673982 * y ^ 5 + 20617061 * y ^ 7
      - 42058694 * y ^ 9 + 15094643 * y ^ 11 - 3819953 * y ^ 13) * 512 ^ 13 := by
    simp only [residue, horner]; push_cast; ring
  rw [e, abs_mul, abs_of_pos (by positivity : (0 : ℝ) < 512 ^ 13)] at h
  exact le_of_mul_le_mul_right (a := (512 : ℝ) ^ 13) (by push_cast at h ⊢; linarith) (by positivity)

/-- `π` from below: the sine of a sixth of this decimal is less than a half. -/
theorem pi_gt : 3.1415926535 < Real.pi := by
  by_contra hc
  have h := sin_taylor (3.1415926535 / 6) (by norm_num) (by norm_num)
  have hm := Real.sin_le_sin_of_le_of_le_pi_div_two (x := Real.pi / 6) (y := 3.1415926535 / 6)
    (by linarith [Real.pi_pos]) (by linarith [Real.two_le_pi]) (by linarith)
  rw [Real.sin_pi_div_six] at hm
  have ht : taylor (3.1415926535 / 6) < 1 / 2 - 1 / 100000000000 := by unfold taylor; norm_num
  have hr : (3.1415926535 / 6 : ℝ) ^ 15 / 653837184000 < 1 / 100000000000 := by norm_num
  linarith [(abs_le.1 h).2]

/-- `π` from above: the sine of a sixth of this decimal is more than a half. -/
theorem pi_lt : Real.pi < 3.1415926536 := by
  by_contra hc
  have h := sin_taylor (3.1415926536 / 6) (by norm_num) (by norm_num)
  have hm := Real.sin_le_sin_of_le_of_le_pi_div_two (x := 3.1415926536 / 6) (y := Real.pi / 6)
    (by linarith [Real.pi_pos]) (by linarith [Real.pi_pos]) (by linarith)
  rw [Real.sin_pi_div_six] at hm
  have ht : 1 / 2 + 1 / 1000000000000 < taylor (3.1415926536 / 6) := by unfold taylor; norm_num
  have hr : (3.1415926536 / 6 : ℝ) ^ 15 / 653837184000 < 1 / 1000000000000 := by norm_num
  linarith [(abs_le.1 h).1]

/-- A power of `π` between the powers of two decimals. -/
theorem pi_pow (n : ℕ) : (3.1415926535 : ℝ) ^ n ≤ Real.pi ^ n ∧ Real.pi ^ n ≤ (3.1415926536 : ℝ) ^ n :=
  ⟨pow_le_pow_left₀ (by norm_num) pi_gt.le n, pow_le_pow_left₀ Real.pi_pos.le pi_lt.le n⟩

/-- A term `e * w` whose coefficient is at most `10⁻⁵` and whose power is at most a half. -/
theorem term_le (e w : ℝ) (he : |e| ≤ 1 / 100000) (hw : |w| ≤ 1 / 2) : |e * w| ≤ 1 / 200000 := by
  rw [abs_mul]
  calc |e| * |w| ≤ 1 / 100000 * (1 / 2) := mul_le_mul he hw (abs_nonneg _) (by norm_num)
    _ = _ := by norm_num

/-- Over the half turn the polynomial is within `2 ^ -11` of the sine. -/
theorem poly_sin_nonneg (y : ℝ) (h0 : 0 ≤ y) (h1 : y ≤ 1 / 2) : |poly y - Real.sin (2 * Real.pi * y)| ≤ 1 / 2048 := by
  have hpi := pi_lt
  have hpos := Real.pi_pos
  have hu0 : 0 ≤ 2 * Real.pi * y := by positivity
  have hu1 : 2 * Real.pi * y ≤ 3.1416 := by nlinarith
  have hs := sin_taylor _ hu0 (by linarith)
  have hp : (2 * Real.pi * y) ^ 15 / 653837184000 ≤ 50 / 1000000 := by
    have := pow_le_pow_left₀ hu0 hu1 15
    rw [div_le_iff₀ (by norm_num)]
    exact this.trans (by norm_num)
  have hr := residue_le y h0 h1
  have hw : ∀ k : ℕ, |y ^ (k + 1)| ≤ 1 / 2 := fun k => by
    rw [abs_of_nonneg (by positivity), pow_succ]
    exact (mul_le_mul (pow_le_one₀ h0 (by linarith)) h1 h0 (by norm_num)).trans (by norm_num)
  have p3 := pi_pow 3
  have p5 := pi_pow 5
  have p7 := pi_pow 7
  have p9 := pi_pow 9
  have p11 := pi_pow 11
  have p13 := pi_pow 13
  have p1 := pi_pow 1
  norm_num at p1 p3 p5 p7 p9 p11 p13
  have t1 := term_le (6583629 / 1048576 - 2 * Real.pi + 4547 / 1000000) (y ^ 1)
    (by rw [abs_le]; constructor <;> linarith) (hw 0)
  have t3 := term_le (-10772501 / 262144 + 8 * Real.pi ^ 3 / 6 - 247872 / 1000000) (y ^ 3)
    (by rw [abs_le]; constructor <;> linarith) (hw 2)
  have t5 := term_le (10214607 / 131072 - 32 * Real.pi ^ 5 / 120 + 3673982 / 1000000) (y ^ 5)
    (by rw [abs_le]; constructor <;> linarith) (hw 4)
  have t7 := term_le (-7351671 / 131072 + 128 * Real.pi ^ 7 / 5040 - 20617061 / 1000000) (y ^ 7)
    (by rw [abs_le]; constructor <;> linarith) (hw 6)
  have t9 := term_le (-(512 * Real.pi ^ 9 / 362880) + 42058694 / 1000000) (y ^ 9)
    (by rw [abs_le]; constructor <;> linarith) (hw 8)
  have t11 := term_le (2048 * Real.pi ^ 11 / 39916800 - 15094643 / 1000000) (y ^ 11)
    (by rw [abs_le]; constructor <;> linarith) (hw 10)
  have t13 := term_le (-(8192 * Real.pi ^ 13 / 6227020800) + 3819953 / 1000000) (y ^ 13)
    (by rw [abs_le]; constructor <;> linarith) (hw 12)
  have e : poly y - taylor (2 * Real.pi * y)
      = (6583629 / 1048576 - 2 * Real.pi + 4547 / 1000000) * y ^ 1
        + (-10772501 / 262144 + 8 * Real.pi ^ 3 / 6 - 247872 / 1000000) * y ^ 3
        + (10214607 / 131072 - 32 * Real.pi ^ 5 / 120 + 3673982 / 1000000) * y ^ 5
        + (-7351671 / 131072 + 128 * Real.pi ^ 7 / 5040 - 20617061 / 1000000) * y ^ 7
        + (-(512 * Real.pi ^ 9 / 362880) + 42058694 / 1000000) * y ^ 9
        + (2048 * Real.pi ^ 11 / 39916800 - 15094643 / 1000000) * y ^ 11
        + (-(8192 * Real.pi ^ 13 / 6227020800) + 3819953 / 1000000) * y ^ 13
        + (-4547 * y + 247872 * y ^ 3 - 3673982 * y ^ 5 + 20617061 * y ^ 7 - 42058694 * y ^ 9 + 15094643 * y ^ 11
            - 3819953 * y ^ 13) / 1000000 := by
    unfold poly taylor; ring
  rw [abs_le] at hs hr t1 t3 t5 t7 t9 t11 t13 ⊢
  constructor <;> linarith

/-- The same on either side of zero. -/
theorem poly_sin (y : ℝ) (h : |y| ≤ 1 / 2) : |poly y - Real.sin (2 * Real.pi * y)| ≤ 1 / 2048 := by
  rcases le_total 0 y with h0 | h0
  · exact poly_sin_nonneg y h0 (by rwa [abs_of_nonneg h0] at h)
  · have hp : poly (-y) = -poly y := by unfold poly; ring
    have hs : Real.sin (2 * Real.pi * -y) = -Real.sin (2 * Real.pi * y) := by rw [mul_neg, Real.sin_neg]
    have := poly_sin_nonneg (-y) (by linarith) (by rwa [abs_of_nonpos h0] at h)
    rwa [hp, hs, ← neg_sub', abs_neg] at this

end Cert.SineBound

end
-- ==== Proof.Reference.lean ====
/- UNTRUSTED — the reference as one array of its four arguments, by the stages that its text names: the whole number of a
   position, the sines and cosines, the table of twelve rows, the row of a position, the row taken. The functions that the
   printed predicate on the tolerance names (`fn_take` and its like) are the same text and serve here. -/
module

public import proofs.«01_k».proof.Proof.Gen.ReferenceIdeal.Run
public import proofs.«01_k».proof.Proof.Gen.Post_within_tolerance
public import Idealize.ShloMosaic.PureOps.Ideal

@[expose] public section

set_option maxRecDepth 16384

noncomputable section

open Idealize.ShloMosaic

namespace Cert.Reference

open Cert.Post_within_tolerance Cert.Post_within_tolerance.Gen

/-- Where a position is negative. -/
def negative (x : FVec Ideal S16384x50 .f32) : IVec S16384x50 1 :=
  cmpf .olt x (broadcastInDim S16384x50 ![] Facts.bcast_S_S16384x50 (constant S_ .f32 0x00000000#32))

/-- The position, floor-divided by one where it is not negative. -/
def whole (x : FVec Ideal S16384x50 .f32) : FVec Ideal S16384x50 .f32 :=
  fn_where_0 (F := Ideal) (noti (negative x)) (fn_floor_divide (F := Ideal) x (constant S_ .f32 0x3F800000#32)) x

/-- The frequency of each lane of the sine. -/
def freqs : FVec Ideal S64 .f32 :=
  Host.divf (broadcastInDim S64 ![] Facts.bcast_S_S64 (constant S_ .f32 0x3F800000#32))
    (Host.powf (broadcastInDim S64 ![] Facts.bcast_S_S64 (constant S_ .f32 0x461C4000#32))
      (Host.divf (sitofp .f32 (iotaInDim S64 32 0)) (broadcastInDim S64 ![] Facts.bcast_S_S64 (constant S_ .f32 0x42800000#32))))

/-- The angle at each position and lane of the sine. -/
def angles (x : FVec Ideal S16384x50 .f32) : FVec Ideal S819200x64 .f32 :=
  mulf
    (broadcastInDim S819200x64 ![0, 1] Facts.bcast_S819200x1_S819200x64_0_1
      (broadcastInDim S819200x1 ![0] Facts.bcast_S819200_S819200x1_0
        (shapeCast S819200 (whole x) Facts.shapeCasts_S16384x50_S819200)))
    (broadcastInDim S819200x64 ![0, 1] Facts.bcast_S1x64_S819200x64_0_1
      (broadcastInDim S1x64 ![1] Facts.bcast_S64_S1x64_1 freqs))

/-- The sines, then the cosines. -/
def waves (x : FVec Ideal S16384x50 .f32) : FVec Ideal S16384x50x128 .f32 :=
  shapeCast S16384x50x128
    (concatenate S819200x128 1 [⟨S819200x64, Host.sin (angles x)⟩, ⟨S819200x64, Host.cos (angles x)⟩]
      Facts.concatenates_S819200x64_S819200x64_S819200x128_d1)
    Facts.shapeCasts_S819200x128_S16384x50x128

/-- A row twice. -/
def twice (v : FVec Ideal S1x42 .f32) : FVec Ideal S2x42 .f32 :=
  shapeCast S2x42
    (broadcastInDim S2x1x1x42 ![0, 1, 2, 3] Facts.bcast_S1x1x1x42_S2x1x1x42_0_1_2_3
      (shapeCast S1x1x1x42 v Facts.shapeCasts_S1x42_S1x1x1x42))
    Facts.shapeCasts_S2x1x1x42_S2x42

/-- Four rows three times. -/
def thrice (v : FVec Ideal S4x42 .f32) : FVec Ideal S12x42 .f32 :=
  shapeCast S12x42
    (broadcastInDim S3x4x1x42 ![0, 1, 2, 3] Facts.bcast_S1x4x1x42_S3x4x1x42_0_1_2_3
      (shapeCast S1x4x1x42 v Facts.shapeCasts_S4x42_S1x4x1x42))
    Facts.shapeCasts_S3x4x1x42_S12x42

/-- The four rows of the first table. -/
def rows1 (t : FVec Ideal S2x42 .f32) : FVec Ideal S4x42 .f32 :=
  concatenate S4x42 0
    [⟨S2x42, twice (extractStridedSlice S1x42 ![0, 0] t Facts.slices_S2x42_S1x42_0_0)⟩,
      ⟨S2x42, twice (extractStridedSlice S1x42 ![1, 0] t Facts.slices_S2x42_S1x42_1_0)⟩]
    Facts.concatenates_S2x42_S2x42_S4x42_d0

/-- The four rows of the second table. -/
def rows2 (r : FVec Ideal S2x42 .f32) : FVec Ideal S4x42 .f32 :=
  concatenate S4x42 0
    [⟨S1x42, extractStridedSlice S1x42 ![0, 0] r Facts.slices_S2x42_S1x42_0_0⟩,
      ⟨S2x42, twice (extractStridedSlice S1x42 ![1, 0] r Facts.slices_S2x42_S1x42_1_0)⟩,
      ⟨S1x42, extractStridedSlice S1x42 ![0, 0] r Facts.slices_S2x42_S1x42_0_0⟩]
    Facts.concatenates_S1x42_S2x42_S1x42_S4x42_d0

/-- The three rows of the last table, the mean of the two given ones first. -/
def rows3 (o : FVec Ideal S2x44 .f32) : FVec Ideal S3x44 .f32 :=
  concatenate S3x44 0
    [⟨S1x44, broadcastInDim S1x44 ![1] Facts.bcast_S44_S1x44_1
        (Host.divf (Host.reduceAdd o (constant S_ .f32 0x00000000#32) Facts.reducesTo_S2x44_S44_d0 Facts.h_S_)
          (broadcastInDim S44 ![] Facts.bcast_S_S44 (constant S_ .f32 0x40000000#32)))⟩,
      ⟨S1x44, broadcastInDim S1x44 ![1] Facts.bcast_S44_S1x44_1
        (shapeCast S44 (extractStridedSlice S1x44 ![0, 0] o Facts.slices_S2x44_S1x44_0_0) Facts.shapeCasts_S1x44_S44)⟩,
      ⟨S1x44, broadcastInDim S1x44 ![1] Facts.bcast_S44_S1x44_1
        (shapeCast S44 (extractStridedSlice S1x44 ![1, 0] o Facts.slices_S2x44_S1x44_1_0) Facts.shapeCasts_S1x44_S44)⟩]
    Facts.concatenates_S1x44_S1x44_S1x44_S3x44_d0

/-- The table of twelve rows. -/
def table (t r : FVec Ideal S2x42 .f32) (o : FVec Ideal S2x44 .f32) : FVec Ideal S12x128 .f32 :=
  concatenate S12x128 1
    [⟨S12x42, thrice (rows1 t)⟩, ⟨S12x42, thrice (rows2 r)⟩,
      ⟨S12x44, shapeCast S12x44 (broadcastInDim S3x4x44 ![0, 2] Facts.bcast_S3x44_S3x4x44_0_2 (rows3 o))
        Facts.shapeCasts_S3x4x44_S12x44⟩]
    Facts.concatenates_S12x42_S12x42_S12x44_S12x128_d1

/-- The row of the table at each position. -/
def indices (x : FVec Ideal S16384x50 .f32) : IVec S16384x50 32 :=
  fn_clip (F := Ideal)
    (fptosi 32 (Host.negf (addf (whole x)
      (broadcastInDim S16384x50 ![] Facts.bcast_S_S16384x50 (constant S_ .f32 0x3F800000#32)))))
    (constantI S_ 32 0#32) (constantI S_ 32 11#32)

/-- The reference's result. -/
def result (x : FVec Ideal S16384x50 .f32) (t r : FVec Ideal S2x42 .f32) (o : FVec Ideal S2x44 .f32) :
    FVec Ideal S16384x50x128 .f32 :=
  fn_where_2 (F := Ideal) (broadcastInDim S16384x50x1 ![0, 1] Facts.bcast_S16384x50_S16384x50x1_0_1 (negative x))
    (fn_take (F := Ideal) (table t r o) (indices x)) (waves x)

/-- It is what the reference program computes. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v65 (F := Ideal) m c
      = result (m (c.tc.loc Cert.ReferenceIdeal.main_arg0)) (m (c.tc.loc Cert.ReferenceIdeal.main_arg1))
          (m (c.tc.loc Cert.ReferenceIdeal.main_arg2)) (m (c.tc.loc Cert.ReferenceIdeal.main_arg3)) := rfl

/-- The predicate on the tolerance compares with it. -/
theorem tolerance_eq (x : FVec Ideal S16384x50 .f32) (t r : FVec Ideal S2x42 .f32) (o : FVec Ideal S2x44 .f32)
    (y : FVec Ideal S16384x50x128 .f32) :
    Cert.Post_within_tolerance.fn (F := Ideal) x t r o y
      = cmpf .ole (Host.absf (subf y (result x t r o)))
          (broadcastInDim S16384x50x128 ![] Facts.bcast_S_S16384x50x128 (constant S_ .f32 0x3A000000#32)) := rfl

end Cert.Reference

end
-- ==== Proof.ReferenceElt.lean ====
/- UNTRUSTED — the reference's stages at an index: the whole number of a position, the row of a position, the table's entry,
   the row taken, the wave. -/
module

public import proofs.«01_k».proof.Proof.Reference
public import proofs.«01_k».proof.Proof.Elt
public import Idealize.ShloMosaic.Lib.ReduceAll

@[expose] public section

set_option maxRecDepth 16384

noncomputable section

open Idealize.ShloMosaic

namespace Cert.Reference

open Cert.Post_within_tolerance Cert.Post_within_tolerance.Gen Cert.Consts

/-! ### The whole number -/

theorem negative_apply (x : FVec Ideal S16384x50 .f32) (a : Fin 16384) (b : Fin 50) :
    negative x (ix2 a b) = BitVec.ofBool (decide (x (ix2 a b) < 0)) := by
  pointwise [negative]

/-- A real that is not negative, floor-divided by one. -/
theorem round_floor (r : ℝ) : Ideal.roundHalfAway (⌊r⌋ : ℝ) = ⌊r⌋ := by
  unfold Ideal.roundHalfAway
  split_ifs
  · rw [Int.floor_intCast_add]; norm_num
  · rw [Int.ceil_eq_iff]; constructor <;> linarith

/-- The whole number: the position itself where it is negative, the position rounded down elsewhere. -/
theorem whole_apply (x : FVec Ideal S16384x50 .f32) (a : Fin 16384) (b : Fin 50) :
    whole x (ix2 a b) = if x (ix2 a b) < 0 then x (ix2 a b) else Ideal.liftRound Int.floor (x (ix2 a b)) := by
  pointwise [whole, negative, fn_where_0, fn_floor_divide, fn_floor_divide_part1, fn_where, id]
  generalize x (ix2 a b) = y
  have one : (1 : EReal) = ((1 : ℝ) : EReal) := rfl
  by_cases hy : y < 0
  · simp [hy, Scalar.select]
  · rw [if_neg hy]
    have hsel : ∀ u v : EReal, Scalar.select (~~~BitVec.ofBool (decide (y < 0))) u v = u := fun u v => by
      simp [hy, Scalar.select]
    rw [hsel, if_neg one_ne_zero]
    induction y using EReal.rec with
    | bot => exact absurd EReal.bot_lt_zero hy
    | top =>
      have h1 : Ideal.div (⊤ - ⊥) (1 : EReal) = ⊤ := by
        rw [one, Ideal.div_coe one_ne_zero]; norm_num
      rw [Ideal.remf_top, h1, show (⊤ : EReal) - 1 = ⊤ by rw [one]; rfl]
      unfold Scalar.select
      split <;> rfl
    | coe r =>
      have hr : 0 ≤ r := by
        by_contra hc
        exact hy (by exact_mod_cast not_le.1 hc)
      have hrem : Ideal.remf (r : EReal) 1 = ((Int.fract r : ℝ) : EReal) := by
        rw [one, Ideal.remf_coe, if_neg one_ne_zero, div_one, one_mul, Ideal.truncInt, if_pos hr]
        rfl
      have hdiv : Ideal.div ((r : EReal) - ((Int.fract r : ℝ) : EReal)) 1 = ((⌊r⌋ : ℝ) : EReal) := by
        rw [one, Ideal.div_coe one_ne_zero, ← EReal.coe_sub, ← EReal.coe_mul]
        congr 1
        rw [Int.self_sub_fract]; ring
      rw [hrem, hdiv]
      have hcond : IntOp.andi (BitVec.ofBool (decide (((Int.fract r : ℝ) : EReal) ≠ 0)))
          (BitVec.ofBool (decide (Ideal.sign 1 ≠ Ideal.sign ((Int.fract r : ℝ) : EReal)))) = 0#1 := by
        rcases (Int.fract_nonneg r).eq_or_lt with h | h
        · rw [← h]; simp [IntOp.andi]
        · have hs : Ideal.sign 1 = Ideal.sign ((Int.fract r : ℝ) : EReal) := by
            rw [one, Ideal.sign_coe, Ideal.sign_coe, sign_pos h, sign_pos one_pos]
          rw [hs]; simp [IntOp.andi]
      rw [hcond]
      unfold Scalar.select
      rw [if_neg (by decide), Ideal.liftRound_coe, Ideal.liftRound_coe, round_floor]

/-! ### The row -/

/-- A word of a small natural number is that number. -/
theorem toInt_ofNat32 (n : ℕ) (h : n < 2147483648) : (BitVec.ofNat 32 n).toInt = n := by
  rw [BitVec.toInt_eq_toNat_bmod, BitVec.toNat_ofNat, Int.bmod_def]; omega

/-- A word clamped to the table's rows. -/
theorem clip_word (w : BitVec 32) :
    IntOp.minsi 11#32 (IntOp.maxsi 0#32 w) = BitVec.ofNat 32 (min 11 (max 0 w.toInt)).toNat := by
  have h0 : (0#32 : BitVec 32).toInt = 0 := rfl
  have h11 : (11#32 : BitVec 32).toInt = 11 := rfl
  unfold IntOp.minsi IntOp.maxsi
  simp only [BitVec.slt_eq_decide, decide_eq_true_eq, h0]
  split_ifs with h1 h2 h2
  · exact absurd (by rw [h11, h0] at h2; exact h2) (by norm_num)
  · rw [show (min 11 (max 0 w.toInt)).toNat = 0 by omega]
  · rw [h11] at h2; rw [show (min 11 (max 0 w.toInt)).toNat = 11 by omega]
  · rw [h11] at h2
    apply BitVec.eq_of_toInt_eq
    rw [show (min 11 (max 0 w.toInt)).toNat = w.toInt.toNat by omega, toInt_ofNat32 _ (by omega)]
    omega

/-- At every position the row is one of the table's. -/
theorem indices_mem (x : FVec Ideal S16384x50 .f32) (a : Fin 16384) (b : Fin 50) :
    ∃ n < 12, indices x (ix2 a b) = BitVec.ofNat 32 n := by
  have h : ∃ w : BitVec 32, indices x (ix2 a b) = IntOp.minsi 11#32 (IntOp.maxsi 0#32 w) :=
    ⟨FloatOps.fptosi (F := Ideal) 32 (-(whole x (ix2 a b) + 1)), by pointwise [indices, fn_clip]; rfl⟩
  obtain ⟨w, hw⟩ := h
  exact ⟨(min 11 (max 0 w.toInt)).toNat, by omega, hw.trans (clip_word w)⟩

/-- A word of an integer in range is that integer. -/
theorem toInt_ofInt32 (z : ℤ) (h0 : -2147483648 ≤ z) (h1 : z ≤ 2147483647) : (BitVec.ofInt 32 z).toInt = z := by
  rw [BitVec.toInt_ofInt, Int.bmod_def]; omega

/-- At a negative position it is the kernel's row. -/
theorem indices_apply (x : FVec Ideal S16384x50 .f32) (a : Fin 16384) (b : Fin 50) (hx : x (ix2 a b) < 0) :
    indices x (ix2 a b) = BitVec.ofNat 32 (Elt.row (x (ix2 a b))) := by
  have h : indices x (ix2 a b) = IntOp.minsi 11#32 (IntOp.maxsi 0#32 (Ideal.fptosi 32 (-(whole x (ix2 a b) + 1)))) := by
    pointwise [indices, fn_clip]; rfl
  rw [h, whole_apply, if_pos hx, clip_word]
  congr 1
  have one : (1 : EReal) = ((1 : ℝ) : EReal) := rfl
  revert hx
  generalize x (ix2 a b) = y
  intro hx
  unfold Ideal.fptosi
  have e31 : ((2 ^ (32 - 1) : ℕ) : ℤ) = 2147483648 := by norm_num
  induction y using EReal.rec with
  | bot =>
    rw [show -((⊥ : EReal) + 1) = ⊤ by rw [one]; rfl, Ideal.toIntClamped_top]
    rfl
  | top => exact absurd hx (by simp)
  | coe r =>
    have e : -((r : EReal) + 1) = ((-r - 1 : ℝ) : EReal) := by
      rw [one, ← EReal.coe_add, ← EReal.coe_neg]; congr 1; ring
    rw [e, Ideal.toIntClamped_coe, Elt.row_coe, toInt_ofInt32 _ (by norm_num) (by norm_num)]
    split_ifs with h0
    · have := Int.floor_nonneg.2 h0
      rw [e31]
      omega
    · have h1 : ⌈-r - 1⌉ ≤ 0 := Int.ceil_le.2 (by push_cast; linarith)
      have h2 : ⌊-r - 1⌋ < 0 := Int.floor_lt.2 (by push_cast; linarith)
      rw [e31]
      omega

/-! ### The table -/

/-- The table at row `n` and lane `d`. -/
theorem table_apply (t r : FVec Ideal S2x42 .f32) (o : FVec Ideal S2x44 .f32) (n : Fin 12) (d : Fin 128) :
    table t r o (ix2 n d)
      = if h : d.val < 42 then (if n.val % 4 < 2 then t (ix2 0 ⟨d.val, h⟩) else t (ix2 1 ⟨d.val, h⟩))
        else if h' : d.val - 42 < 42 then
          (if n.val % 4 = 0 ∨ n.val % 4 = 3 then r (ix2 0 ⟨d.val - 42, h'⟩) else r (ix2 1 ⟨d.val - 42, h'⟩))
        else
          (if n.val / 4 = 0 then
              Ideal.div (o (ix2 0 ⟨d.val - 42 - 42, by omega⟩) + o (ix2 1 ⟨d.val - 42 - 42, by omega⟩)) ((2 : ℝ) : EReal)
            else if n.val / 4 = 1 then o (ix2 0 ⟨d.val - 42 - 42, by omega⟩)
            else o (ix2 1 ⟨d.val - 42 - 42, by omega⟩)) := by
  pointwise [table, thrice, rows1, twice, rows2, rows3]
  have hsum : ∀ e, (∑ x, o (ix2 x e)) = o (ix2 0 e) + o (ix2 1 e) := fun e => Fin.sum_univ_two _
  have hr : ∀ (k : ℕ) (hk : k < 2) e, k = 0 → r (ix2 ⟨k, hk⟩ e) = r (ix2 0 e) := fun k hk e h => by subst h; rfl
  simp only [bits_two, hsum]
  split_ifs
  all_goals repeat' split
  all_goals first
    | with_reducible rfl
    | (exfalso; omega)
    | exact hr _ _ _ (by omega)

/-- One row of the table taken. -/
theorem gather_apply (T : FVec Ideal S12x128 .f32) (i : IVec S16384x50x1 32) (a : Fin 16384) (b : Fin 50) (d : Fin 128)
    (n : ℕ) (hn : n < 12) (h : i (ix3 a b 0) = BitVec.ofNat 32 n) :
    Host.gather gather_S12x128_S16384x50x1_S16384x50x128_2_0_n_n_0_2_1128 T i (ix3 a b d) = T (ix2 ⟨n, hn⟩ d) := by
  unfold Host.gather
  refine congrArg T (funext fun c => Fin.ext ?_)
  set D := gather_S12x128_S16384x50x1_S16384x50x128_2_0_n_n_0_2_1128
  have hs : D.siIdx (ix3 a b d) ⟨0, by decide⟩ = ix3 a b 0 := by
    funext c; fin_cases c <;> rfl
  have hw : (BitVec.ofNat 32 n).toInt = n := toInt_ofNat32 n (by omega)
  match c with
  | ⟨0, _⟩ =>
    show min (i (D.siIdx (ix3 a b d) ⟨0, by decide⟩)).toInt.toNat (12 - 1) + 0 + 0 = n
    rw [hs, h, hw]
    omega
  | ⟨1, _⟩ =>
    show 0 + 0 + d.val = d.val
    omega

/-- The rows where the taking starts: a negative one would count from the end. -/
def starts (i : IVec S16384x50 32) : IVec S16384x50x1 32 :=
  broadcastInDim S16384x50x1 ![0, 1] Facts.bcast_S16384x50_S16384x50x1_0_1
    (fn_where_1 (F := Ideal) (cmpi .slt i (broadcastInDim S16384x50 ![] Facts.bcast_S_S16384x50 (constantI S_ 32 0#32)))
      (addi i (broadcastInDim S16384x50 ![] Facts.bcast_S_S16384x50 (constantI S_ 32 12#32))) i)

/-- Where they are rows of the table. -/
def inRange (i : IVec S16384x50 32) : IVec S16384x50x1 1 :=
  andi
    (cmpi .sge (starts i) (broadcastInDim S16384x50x1 ![] Facts.bcast_S_S16384x50x1 (constantI S_ 32 0#32)))
    (cmpi .sle (starts i) (broadcastInDim S16384x50x1 ![0, 1, 2] Facts.bcast_S1x1x1_S16384x50x1_0_1_2
      (broadcastInDim S1x1x1 ![2] Facts.bcast_S1_S1x1x1_2 (constantI S1 32 11#32))))

/-- The taking, by these two. -/
theorem take_eq (T : FVec Ideal S12x128 .f32) (i : IVec S16384x50 32) :
    fn_take (F := Ideal) T i
      = select (broadcastInDim S16384x50x128 ![0, 1] Facts.bcast_S16384x50_S16384x50x128_0_1
          (Host.reduce IntOp.andi (inRange i) (constantI S_ 1 1#1) Facts.reducesTo_S16384x50x1_S16384x50_d2 Facts.h_S_))
        (Host.gather gather_S12x128_S16384x50x1_S16384x50x128_2_0_n_n_0_2_1128 T (starts i))
        (broadcastInDim S16384x50x128 ![] Facts.bcast_S_S16384x50x128 (constant S_ .f32 0x7FC00000#32)) := rfl

/-- A row of the table is where its taking starts. -/
theorem starts_apply (i : IVec S16384x50 32) (a : Fin 16384) (b : Fin 50) (c : Fin 1) (n : ℕ) (hn : n < 12)
    (h : i (ix2 a b) = BitVec.ofNat 32 n) : starts i (ix3 a b c) = BitVec.ofNat 32 n := by
  have e : starts i (ix3 a b c)
      = Scalar.select (IntOp.cmpi .slt (i (ix2 a b)) 0#32) (IntOp.addi (i (ix2 a b)) 12#32) (i (ix2 a b)) := by
    pointwise [starts, fn_where_1]
  rw [e, h]
  have : ∀ n : Fin 12, Scalar.select (IntOp.cmpi .slt (BitVec.ofNat 32 n.val) 0#32)
      (IntOp.addi (BitVec.ofNat 32 n.val) 12#32) (BitVec.ofNat 32 n.val) = BitVec.ofNat 32 n.val := by decide
  exact this ⟨n, hn⟩

/-- Every row is in range. -/
theorem inRange_one (i : IVec S16384x50 32) (hi : ∀ a b, ∃ n < 12, i (ix2 a b) = BitVec.ofNat 32 n) :
    ∀ j, inRange i j = 1#1 := by
  intro j
  obtain ⟨a, b, c, rfl⟩ : ∃ a b c, j = ix3 a b c := ⟨_, _, _, ValueIdx.eq_ix3 j⟩
  obtain ⟨n, hn, h⟩ := hi a b
  have e : inRange i (ix3 a b c)
      = IntOp.andi (IntOp.cmpi .sge (starts i (ix3 a b c)) 0#32) (IntOp.cmpi .sle (starts i (ix3 a b c)) 11#32) := by
    pointwise [inRange]
  rw [e, starts_apply i a b c n hn h]
  have : ∀ n : Fin 12, IntOp.andi (IntOp.cmpi .sge (BitVec.ofNat 32 n.val) 0#32)
      (IntOp.cmpi .sle (BitVec.ofNat 32 n.val) 11#32) = 1#1 := by decide
  exact this ⟨n, hn⟩

/-- The row that the reference takes. -/
theorem take_apply (T : FVec Ideal S12x128 .f32) (i : IVec S16384x50 32)
    (hi : ∀ a b, ∃ n < 12, i (ix2 a b) = BitVec.ofNat 32 n) (a : Fin 16384) (b : Fin 50) (d : Fin 128)
    (n : ℕ) (hn : n < 12) (h : i (ix2 a b) = BitVec.ofNat 32 n) :
    fn_take (F := Ideal) T i (ix3 a b d) = T (ix2 ⟨n, hn⟩ d) := by
  rw [take_eq, ← gather_apply T (starts i) a b d n hn (starts_apply i a b 0 n hn h)]
  show Scalar.select (Host.reduce IntOp.andi (inRange i) (constantI S_ 1 1#1) Facts.reducesTo_S16384x50x1_S16384x50_d2
    Facts.h_S_ _) _ _ = _
  rw [Host.reduce_andi_one _ _ _ _ _ rfl (inRange_one i hi)]
  rfl

/-! ### The waves -/

/-- The frequency of a lane. -/
theorem freqs_apply (k : Fin 64) : freqs (ix1 k) = ((Elt.freq k.val : ℝ) : EReal) := by
  pointwise [freqs]
  have hs : FloatOps.sitofp (F := Ideal) FTy.f32 (BitVec.ofNat 32 k.val) = ((k.val : ℝ) : EReal) := by
    show ((((BitVec.ofNat 32 k.val).toInt : ℤ) : ℝ) : EReal) = _
    have hk := k.isLt
    rw [show (BitVec.ofNat 32 k.val).toInt = (k.val : ℤ) from toInt_ofNat32 _ (by omega), Int.cast_natCast]
  have hp : (10000 : ℝ) ^ ((k.val : ℝ) * (1 / 64)) ≠ 0 := (Real.rpow_pos_of_pos (by norm_num) _).ne'
  rw [hs, bits_base, bits_sixty_four, Ideal.div_coe (by norm_num), ← EReal.coe_mul, Ideal.pow_coe_coe, Real.rpow_eq_pow,
    Ideal.div_coe hp, one_mul, Elt.freq]
  congr 3
  ring

/-- The wave at a position and a lane. -/
theorem waves_apply (x : FVec Ideal S16384x50 .f32) (a : Fin 16384) (b : Fin 50) (d : Fin 128) :
    waves x (ix3 a b d)
      = if h : d.val < 64 then Ideal.sin (whole x (ix2 a b) * freqs (ix1 ⟨d.val, h⟩))
        else Ideal.cos (whole x (ix2 a b) * freqs (ix1 ⟨d.val - 64, by omega⟩)) := by
  pointwise [waves, angles]

/-- At a whole number. -/
theorem waves_coe (x : FVec Ideal S16384x50 .f32) (a : Fin 16384) (b : Fin 50) (d : Fin 128) (s : ℝ)
    (h : whole x (ix2 a b) = s) : waves x (ix3 a b d) = ((Elt.waveR s d.val : ℝ) : EReal) := by
  rw [waves_apply, h, Elt.waveR]
  split_ifs <;> rw [freqs_apply, ← EReal.coe_mul] <;> rfl

/-- At `+∞`. -/
theorem waves_top (x : FVec Ideal S16384x50 .f32) (a : Fin 16384) (b : Fin 50) (d : Fin 128)
    (h : whole x (ix2 a b) = ⊤) : waves x (ix3 a b d) = ⊥ := by
  have hf : ∀ k, (⊤ : EReal) * ((Elt.freq k : ℝ) : EReal) = ⊤ := fun k =>
    EReal.top_mul_coe_of_pos (by unfold Elt.freq; positivity)
  rw [waves_apply, h]
  split_ifs <;> rw [freqs_apply, hf] <;> rfl

/-! ### The result -/

/-- The result: the row taken at a negative position, the wave at the others. -/
theorem result_apply (x : FVec Ideal S16384x50 .f32) (t r : FVec Ideal S2x42 .f32) (o : FVec Ideal S2x44 .f32)
    (a : Fin 16384) (b : Fin 50) (d : Fin 128) :
    result x t r o (ix3 a b d)
      = if x (ix2 a b) < 0 then table t r o (ix2 ⟨Elt.row (x (ix2 a b)), Elt.row_lt _⟩ d) else waves x (ix3 a b d) := by
  have h : result x t r o (ix3 a b d)
      = if x (ix2 a b) < 0 then fn_take (F := Ideal) (table t r o) (indices x) (ix3 a b d) else waves x (ix3 a b d) := by
    pointwise [result, fn_where_2, negative]
  rw [h]
  split_ifs with hx
  · exact take_apply _ _ (indices_mem x) a b d _ (Elt.row_lt _) (indices_apply x a b hx)
  · rfl

end Cert.Reference

end
-- ==== Proof.Equation.lean ====
module

public import proofs.«01_k».proof.Proof.Padded
public import proofs.«01_k».proof.Proof.Consts
public import proofs.«01_k».proof.Proof.SineBound
public import proofs.«01_k».proof.Proof.ReferenceElt

/-!
# The kernel's element is the reference's element

At a negative position both programs pick a row of the table that the three small tables span; the kernel computes that
row by a cubic in the row's number.  At the other positions both compute a sine of the position: the reference by the
sine itself, the kernel by a wave of the angle in turns.
-/

@[expose] public section

noncomputable section

namespace Cert.Equation

open Idealize.ShloMosaic
open Cert.Reference

/-- Every element of an array is a real number. -/
def Finite {S : Shape} (t : S.Idx → EReal) : Prop := ∀ i, ∃ v : ℝ, t i = (v : EReal)

variable (x : (⟨2, ![16384, 50]⟩ : Shape).Idx → EReal) (t r : (⟨2, ![2, 42]⟩ : Shape).Idx → EReal)
  (o : (⟨2, ![2, 44]⟩ : Shape).Idx → EReal) (a : Fin 16384) (b : Fin 50) (d : Fin 128)

/-- The cubic on the padded tables, at a row's number, is the table's row. -/
theorem cubic_table (ht : Finite t) (hr : Finite r) (ho : Finite o) (n : Fin 12) :
    Elt.cubic ((1 / 6 : ℝ) : EReal) (Padded.low t 0 d) (Padded.low t 1 d) (Padded.mid r 0 d) (Padded.mid r 1 d)
      (Padded.high o 0 d) (Padded.high o 1 d) (Elt.node ((n.val : ℝ) : EReal) d.val) = table t r o (ix2 n d) := by
  rw [table_apply, Elt.node_eq _ _ d.isLt]
  unfold Padded.low Padded.mid Padded.high
  have hn := n.isLt
  have hd := d.isLt
  by_cases h : d.val < 42
  · obtain ⟨v0, e0⟩ := ht (ix2 0 ⟨d.val, h⟩)
    obtain ⟨v1, e1⟩ := ht (ix2 1 ⟨d.val, h⟩)
    rw [dif_pos h, dif_pos h, dif_neg (by omega), dif_neg (by omega), dif_neg (by omega), dif_neg (by omega), dif_pos h,
      if_pos (by omega : d.val < 84), e0, e1]
    have := Elt.cubic_low v0 v1 0 0 (n.val % 4) (by omega)
    rw [EReal.coe_zero] at this
    rw [this]
    split_ifs <;> simp
  · by_cases h' : d.val - 42 < 42
    · obtain ⟨v0, e0⟩ := hr (ix2 0 ⟨d.val - 42, h'⟩)
      obtain ⟨v1, e1⟩ := hr (ix2 1 ⟨d.val - 42, h'⟩)
      rw [dif_neg h, dif_neg h, dif_pos ⟨by omega, h'⟩, dif_pos ⟨by omega, h'⟩, dif_neg (by omega), dif_neg (by omega),
        dif_neg h, dif_pos h', if_pos (by omega : d.val < 84), e0, e1]
      have := Elt.cubic_low 0 0 v0 v1 (n.val % 4) (by omega)
      rw [EReal.coe_zero] at this
      rw [this]
      split_ifs <;> simp
    · have h'' : d.val - 84 < 44 := by omega
      have hsub : d.val - 42 - 42 = d.val - 84 := by omega
      obtain ⟨v0, e0⟩ := ho (ix2 0 ⟨d.val - 84, h''⟩)
      obtain ⟨v1, e1⟩ := ho (ix2 1 ⟨d.val - 84, h''⟩)
      rw [dif_neg h, dif_neg h, dif_neg (by omega), dif_neg (by omega), dif_pos ⟨by omega, h''⟩, dif_pos ⟨by omega, h''⟩,
        dif_neg h, dif_neg h', if_neg (by omega : ¬ d.val < 84)]
      simp only [hsub, e0, e1]
      rw [Elt.cubic_high v0 v1 (n.val / 4) (by omega), ← EReal.coe_add, Ideal.div_coe two_ne_zero]
      rw [← EReal.coe_mul, div_eq_mul_one_div (v0 + v1)]
      split_ifs <;> rfl

/-- At a negative position the kernel's element, whatever its wave, is the reference's. -/
theorem sar (wave : EReal → EReal) (ht : Finite t) (hr : Finite r) (ho : Finite o) (hx : x (ix2 a b) < 0) :
    Padded.elt wave x t r o a b d = result x t r o (ix3 a b d) := by
  rw [result_apply, if_pos hx]
  unfold Padded.elt Elt.out
  rw [if_pos (Elt.step_neg _ hx), Elt.idx_eq]
  exact cubic_table t r o d ht hr ho ⟨Elt.row (x (ix2 a b)), Elt.row_lt _⟩

/-- A table's row is real where the tables are. -/
theorem table_finite (ht : Finite t) (hr : Finite r) (ho : Finite o) (n : Fin 12) :
    ∃ v : ℝ, table t r o (ix2 n d) = (v : EReal) := by
  rw [table_apply]
  split_ifs with h h1 h2 h3 h4
  · exact ht _
  · exact ht _
  · exact hr _
  · exact hr _
  · obtain ⟨v0, e0⟩ := ho (ix2 0 ⟨d.val - 42 - 42, by have := d.isLt; omega⟩)
    obtain ⟨v1, e1⟩ := ho (ix2 1 ⟨d.val - 42 - 42, by have := d.isLt; omega⟩)
    rw [e0, e1, ← EReal.coe_add, Ideal.div_coe two_ne_zero, ← EReal.coe_mul]
    exact ⟨_, rfl⟩
  · exact ho _
  · exact ho _

/-- At a non-negative real position the kernel computes its wave of a real angle within half a turn of zero, and the
    reference the sine of that angle. -/
theorem turn (wave : EReal → EReal) (s : ℝ) (hs : x (ix2 a b) = (s : EReal)) (hx : ¬ x (ix2 a b) < 0) :
    ∃ y : ℝ, |y| ≤ 1 / 2 ∧ Padded.elt wave x t r o a b d = wave (y : EReal)
      ∧ result x t r o (ix3 a b d) = ((Real.sin (2 * Real.pi * y) : ℝ) : EReal) := by
  have hf : Ideal.liftRound Int.floor (x (ix2 a b)) = (((⌊s⌋ : ℤ) : ℝ) : EReal) := by rw [hs]; rfl
  obtain ⟨y, hy, hb, hsin⟩ := Elt.frac_coe ((⌊s⌋ : ℤ) : ℝ) d.val d.isLt
  refine ⟨y, hb, ?_, ?_⟩
  · unfold Padded.elt Elt.out
    rw [if_neg (Elt.step_nonneg _ hx)]
    unfold Elt.step
    rw [if_neg hx, hf, hy]
  · rw [result_apply, if_neg hx, hsin]
    exact waves_coe x a b d _ (by rw [whole_apply, if_neg hx, hf])

/-- The sine of the angle in turns, as the kernel with the sine computes it. -/
theorem sin_coe (y : ℝ) : Ideal.sin ((y : EReal) * ((2 * Real.pi : ℝ) : EReal))
    = ((Real.sin (2 * Real.pi * y) : ℝ) : EReal) := by
  rw [← EReal.coe_mul, mul_comm y]
  rfl

/-- With the sine as its wave the kernel's element is the reference's, at every position. -/
theorem sine (wave : EReal → EReal) (hw : ∀ y, wave y = Ideal.sin (y * ((2 * Real.pi : ℝ) : EReal)))
    (ht : Finite t) (hr : Finite r) (ho : Finite o) :
    Padded.elt wave x t r o a b d = result x t r o (ix3 a b d) := by
  by_cases hx : x (ix2 a b) < 0
  · exact sar x t r o a b d wave ht hr ho hx
  · obtain hv | ⟨s, hv⟩ | hv : x (ix2 a b) = ⊥ ∨ (∃ s : ℝ, x (ix2 a b) = (s : EReal)) ∨ x (ix2 a b) = ⊤ := by
      generalize x (ix2 a b) = y
      induction y using EReal.rec with
      | bot => exact .inl rfl
      | coe s => exact .inr (.inl ⟨s, rfl⟩)
      | top => exact .inr (.inr rfl)
    · exact absurd (by rw [hv]; exact EReal.bot_lt_zero) hx
    · obtain ⟨y, -, e, e'⟩ := turn x t r o a b d wave s hv hx
      rw [e, e', hw, sin_coe]
    · have hf : Ideal.liftRound Int.floor (x (ix2 a b)) = ⊤ := by rw [hv]; rfl
      rw [result_apply, if_neg hx, waves_top x a b d (by rw [whole_apply, if_neg hx, hf])]
      unfold Padded.elt Elt.out
      rw [if_neg (Elt.step_nonneg _ hx)]
      unfold Elt.step
      rw [if_neg hx, hf, Elt.frac_top _ d.isLt, hw, EReal.bot_mul_coe_of_pos (by positivity)]
      rfl

/-- The kernel's polynomial at a real angle. -/
theorem poly_coe (y : ℝ) : Elt.poly (y : EReal) = ((SineBound.poly y : ℝ) : EReal) := by
  unfold Elt.poly SineBound.poly
  simp only [Consts.bits_poly0, Consts.bits_poly1, Consts.bits_poly2, Consts.bits_poly3, ← EReal.coe_mul, ← EReal.coe_add]

/-- Where no position is plus infinity and the tables are real the unmodified kernel's element is within `2⁻¹¹` of the reference's. -/
theorem near (hxt : ∀ i, x i < ⊤) (ht : Finite t) (hr : Finite r) (ho : Finite o) :
    max (Padded.elt Elt.poly x t r o a b d - result x t r o (ix3 a b d))
      (-(Padded.elt Elt.poly x t r o a b d - result x t r o (ix3 a b d))) ≤ ((1 / 2048 : ℝ) : EReal) := by
  by_cases hx : x (ix2 a b) < 0
  · rw [sar x t r o a b d _ ht hr ho hx, result_apply, if_pos hx]
    obtain ⟨v, e⟩ := table_finite t r o d ht hr ho ⟨Elt.row (x (ix2 a b)), Elt.row_lt _⟩
    rw [e, ← EReal.coe_sub, ← EReal.coe_neg, sub_self, neg_zero, max_self, EReal.coe_le_coe_iff]
    norm_num
  · obtain ⟨s, hs⟩ : ∃ s : ℝ, x (ix2 a b) = (s : EReal) := by
      have hlt := hxt (ix2 a b)
      revert hx hlt
      generalize x (ix2 a b) = y
      intro hx hlt
      lift y to ℝ using ⟨hlt.ne, fun h => hx (h ▸ EReal.bot_lt_zero)⟩
      exact ⟨y, rfl⟩
    obtain ⟨y, hy, e, e'⟩ := turn x t r o a b d Elt.poly s hs hx
    rw [e, e', poly_coe, ← EReal.coe_sub, ← EReal.coe_neg]
    have h := abs_le.1 (SineBound.poly_sin y hy)
    refine max_le (EReal.coe_le_coe_iff.2 h.2) (EReal.coe_le_coe_iff.2 ?_)
    linarith [h.1]

end Cert.Equation
-- ==== Proof.Predicates.lean ====
module

public import proofs.«01_k».proof.Defs
public import proofs.«01_k».proof.Proof.Equation
public import proofs.«01_k».proof.Proof.Gen.Pre_tables_finite
public import proofs.«01_k».proof.Proof.Gen.Pre_no_overflow
public import proofs.«01_k».proof.Proof.Gen.On_sar_positions
public import Idealize.ShloMosaic.Lib.Pointwise

/-!
# What the predicates of the claims say

The preconditions compare elements or their absolute values with infinity, the mask compares each position with zero and the
tolerance compares the distance from the reference's result with `2⁻¹¹`.
-/

@[expose] public section

noncomputable section

namespace Cert.Predicates

open Idealize.ShloMosaic

/-- An extended real whose absolute value is less than infinity is a real number. -/
theorem real_of_abs_lt {y : EReal} (h : max y (-y) < ⊤) : ∃ v : ℝ, y = (v : EReal) := by
  induction y using EReal.rec with
  | bot => simp at h
  | coe v => exact ⟨v, rfl⟩
  | top => simp at h

/-- A test that reads as one holds. -/
theorem of_bit {p : Prop} [Decidable p] (h : BitVec.ofBool (decide p) = 1#1) : p := by
  by_contra hp
  rw [decide_eq_false hp] at h
  exact absurd h (by decide)

/-- The test for finite elements, on an array of two axes: where it is all ones the elements are real. -/
theorem finite_of_test {n k : ℕ} (y : FVec Ideal ⟨2, ![n, k]⟩ .f32)
    (w : (⟨0, ![]⟩ : Shape).BroadcastsInDim ⟨2, ![n, k]⟩ (![] : Fin 0 → Fin 2))
    (h : cmpf .olt (Host.absf y) (broadcastInDim ⟨2, ![n, k]⟩ ![] w (constant ⟨0, ![]⟩ .f32 0x7F800000#32))
      = fun _ => 1#1) : Equation.Finite y := by
  intro i
  have hi := congrFun h i
  rw [ValueIdx.eq_ix2 i] at hi ⊢
  revert hi
  pointwise []
  intro hi
  rw [Consts.bits_inf] at hi
  exact real_of_abs_lt (of_bit hi)

/-- The test for less than infinity, on an array of two axes: where it is all ones no element is infinity. -/
theorem lt_top_of_test {n k : ℕ} (y : FVec Ideal ⟨2, ![n, k]⟩ .f32)
    (w : (⟨0, ![]⟩ : Shape).BroadcastsInDim ⟨2, ![n, k]⟩ (![] : Fin 0 → Fin 2))
    (h : cmpf .olt y (broadcastInDim ⟨2, ![n, k]⟩ ![] w (constant ⟨0, ![]⟩ .f32 0x7F800000#32)) = fun _ => 1#1)
    (i : (⟨2, ![n, k]⟩ : Shape).Idx) : y i < ⊤ := by
  have hi := congrFun h i
  rw [ValueIdx.eq_ix2 i] at hi ⊢
  revert hi
  pointwise []
  intro hi
  rw [Consts.bits_inf] at hi
  exact of_bit hi

/-- The precondition on the tables says that their elements are real. -/
theorem tables_finite (x : FVec Ideal ⟨2, ![16384, 50]⟩ .f32) (t r : FVec Ideal ⟨2, ![2, 42]⟩ .f32)
    (o : FVec Ideal ⟨2, ![2, 44]⟩ .f32) (h : (Pre_tables_finite.fn x t r o).1 = (fun _ => 1#1)
      ∧ (Pre_tables_finite.fn x t r o).2.1 = (fun _ => 1#1) ∧ (Pre_tables_finite.fn x t r o).2.2 = (fun _ => 1#1)) :
    Equation.Finite t ∧ Equation.Finite r ∧ Equation.Finite o :=
  ⟨finite_of_test t _ h.1, finite_of_test r _ h.2.1, finite_of_test o _ h.2.2⟩

/-- The precondition of the bound says that no position is plus infinity and that the tables' elements are real. -/
theorem no_overflow (x : FVec Ideal ⟨2, ![16384, 50]⟩ .f32) (t r : FVec Ideal ⟨2, ![2, 42]⟩ .f32)
    (o : FVec Ideal ⟨2, ![2, 44]⟩ .f32) (h : (Pre_no_overflow.fn x t r o).1 = (fun _ => 1#1)
      ∧ (Pre_no_overflow.fn x t r o).2.1 = (fun _ => 1#1) ∧ (Pre_no_overflow.fn x t r o).2.2.1 = (fun _ => 1#1)
      ∧ (Pre_no_overflow.fn x t r o).2.2.2 = (fun _ => 1#1)) :
    (∀ i, x i < ⊤) ∧ Equation.Finite t ∧ Equation.Finite r ∧ Equation.Finite o :=
  ⟨lt_top_of_test x _ h.1, finite_of_test t _ h.2.1, finite_of_test r _ h.2.2.1, finite_of_test o _ h.2.2.2⟩

/-- The mask selects only negative positions. -/
theorem sar_positions (x : FVec Ideal ⟨2, ![16384, 50]⟩ .f32) (t r : FVec Ideal ⟨2, ![2, 42]⟩ .f32)
    (o : FVec Ideal ⟨2, ![2, 44]⟩ .f32) (a : Fin 16384) (b : Fin 50) (d : Fin 128)
    (h : On_sar_positions.fn x t r o (ix3 a b d) = 1#1) : x (ix2 a b) < 0 := by
  revert h
  unfold On_sar_positions.fn
  pointwise []
  exact of_bit

/-- The tolerance holds where the distance from the reference's result is at most `2⁻¹¹`. -/
theorem within_tolerance (x : FVec Ideal ⟨2, ![16384, 50]⟩ .f32) (t r : FVec Ideal ⟨2, ![2, 42]⟩ .f32)
    (o : FVec Ideal ⟨2, ![2, 44]⟩ .f32) (y : FVec Ideal ⟨3, ![16384, 50, 128]⟩ .f32)
    (h : ∀ a b d, max (y (ix3 a b d) - Reference.result x t r o (ix3 a b d))
      (-(y (ix3 a b d) - Reference.result x t r o (ix3 a b d))) ≤ ((1 / 2048 : ℝ) : EReal)) :
    Post_within_tolerance.fn x t r o y = fun _ => 1#1 := by
  rw [Reference.tolerance_eq]
  funext i
  rw [ValueIdx.eq_ix3 i]
  have hi := h (i 0) (i 1) (i 2)
  generalize Reference.result x t r o = z at hi ⊢
  pointwise [Consts.bits_tolerance]
  exact congrArg BitVec.ofBool (decide_eq_true hi)

end Cert.Predicates
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelSine
public import proofs.«01_k».proof.Proof.Gen.KernelSine.Skeleton
public import proofs.«01_k».proof.Proof.Gen.KernelSine.Launch
public import proofs.«01_k».proof.Proof.Gen.KernelSine.Points
public import proofs.«01_k».proof.Proof.Gen.KernelSine.Frame
public import proofs.«01_k».proof.Proof.Gen.KernelSineIdeal
public import proofs.«01_k».proof.Proof.Gen.KernelSineIdeal.Skeleton
public import proofs.«01_k».proof.Proof.Gen.KernelSineIdeal.Launch
public import proofs.«01_k».proof.Proof.Gen.KernelSineIdeal.Points
public import proofs.«01_k».proof.Proof.Gen.KernelSineIdeal.Frame
public import proofs.«01_k».proof.Proof.Gen.Pre_tables_finite
public import proofs.«01_k».proof.Proof.Gen.Pre_no_overflow
public import proofs.«01_k».proof.Proof.Gen.Post_within_tolerance
public import proofs.«01_k».proof.Proof.Gen.On_sar_positions
public import proofs.«01_k».proof.Proof.Gen.ReferenceIdeal.Run
public import proofs.«01_k».proof.Proof.Array
public import proofs.«01_k».proof.Proof.ArraySine
public import proofs.«01_k».proof.Proof.Predicates
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's program has no semaphores: it ends with every counter at zero and its arguments unchanged. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- A run of the reference whose arguments are given leaves `result` of them. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem (c.tc.loc Cert.ReferenceIdeal.main_v65) = Cert.Reference.result (m (c.tc.loc Cert.ReferenceIdeal.main_arg0))
          (m (c.tc.loc Cert.ReferenceIdeal.main_arg1)) (m (c.tc.loc Cert.ReferenceIdeal.main_arg2))
          (m (c.tc.loc Cert.ReferenceIdeal.main_arg3))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)) :=
  (θ_run Cert.ReferenceIdeal.defs _ _).mono (fun _ h c => ⟨(h c).1.trans (Cert.Reference.res_eq m c), (h c).2⟩)
    (Cert.ReferenceIdeal.Value.run (F := Ideal) m ρ)

/-- At the negative positions the unmodified kernel's result is the reference's. -/
theorem equal_on_sar : Cert.algebraic_KernelIdeal_ReferenceIdeal_on_sar_positions_pre_tables_finite
    (hKernelIdeal := Cert.KernelIdeal.Gen.facts) (hReferenceIdeal := Cert.ReferenceIdeal.Gen.facts)
    (hPre_tables_finite := Cert.Pre_tables_finite.Gen.facts) (hOn_sar_positions := Cert.On_sar_positions.Gen.facts) := by
  intro m g m' g' hpre hagree
  refine ⟨fun c => Cert.Reference.result (m (c.tc.loc Cert.KernelIdeal.main_arg0)) (m (c.tc.loc Cert.KernelIdeal.main_arg1))
      (m (c.tc.loc Cert.KernelIdeal.main_arg2)) (m (c.tc.loc Cert.KernelIdeal.main_arg3)),
    (θ_run Cert.KernelIdeal.defs _ _).mono (fun r h c => ⟨fun i hi => ?_, (h c).2⟩) (Cert.KernelIdeal.Array.run m g),
    (θ_run Cert.ReferenceIdeal.defs _ _).mono (fun r h c => ⟨fun i _ => ?_, (h c).2⟩) (reference_run m' g')⟩
  · obtain ⟨ht, hr, ho⟩ := Cert.Predicates.tables_finite _ _ _ _ (hpre c)
    rw [ValueIdx.eq_ix3 i] at hi ⊢
    exact (congrFun (h c).1 _).trans (Cert.Equation.sar _ _ _ _ _ _ _ _ ht hr ho
      (Cert.Predicates.sar_positions _ _ _ _ _ _ _ hi))
  · rw [(h c).1, (hagree c).1, (hagree c).2.1, (hagree c).2.2.1, (hagree c).2.2.2]

/-- The unmodified kernel's result is within `2⁻¹¹` of the reference's. -/
theorem close : Cert.holds_KernelIdeal_within_tolerance_pre_no_overflow
    (hKernelIdeal := Cert.KernelIdeal.Gen.facts) (hPre_no_overflow := Cert.Pre_no_overflow.Gen.facts)
    (hPost_within_tolerance := Cert.Post_within_tolerance.Gen.facts) := by
  intro m g hpre
  refine (θ_run Cert.KernelIdeal.defs _ _).mono (fun r h c => ⟨(h c).2.1, (h c).2.2.1, (h c).2.2.2.1, (h c).2.2.2.2, ?_⟩)
    (Cert.KernelIdeal.Array.run m g)
  obtain ⟨hx, ht, hr, ho⟩ := Cert.Predicates.no_overflow _ _ _ _ (hpre c)
  rw [(h c).1]
  exact Cert.Predicates.within_tolerance _ _ _ _ _ fun a b d => Cert.Equation.near _ _ _ _ a b d hx ht hr ho

/-- The result of the kernel with the sine is the reference's. -/
theorem equal : Cert.algebraic_KernelSineIdeal_ReferenceIdeal_pre_tables_finite
    (hKernelSineIdeal := Cert.KernelSineIdeal.Gen.facts) (hReferenceIdeal := Cert.ReferenceIdeal.Gen.facts)
    (hPre_tables_finite := Cert.Pre_tables_finite.Gen.facts) := by
  intro m g m' g' hpre hagree
  refine ⟨fun c => Cert.Reference.result (m (c.tc.loc Cert.KernelSineIdeal.main_arg0))
      (m (c.tc.loc Cert.KernelSineIdeal.main_arg1)) (m (c.tc.loc Cert.KernelSineIdeal.main_arg2))
      (m (c.tc.loc Cert.KernelSineIdeal.main_arg3)),
    (θ_run Cert.KernelSineIdeal.defs _ _).mono (fun r h c => ⟨?_, (h c).2⟩) (Cert.KernelSineIdeal.Array.run m g),
    (θ_run Cert.ReferenceIdeal.defs _ _).mono (fun r h c => ⟨?_, (h c).2⟩) (reference_run m' g')⟩
  · obtain ⟨ht, hr, ho⟩ := Cert.Predicates.tables_finite _ _ _ _ (hpre c)
    refine (h c).1.trans (funext fun i => ?_)
    rw [ValueIdx.eq_ix3 i]
    exact Cert.Equation.sine _ _ _ _ _ _ _ _ Cert.KernelSineIdeal.Block.wave_eq ht hr ho
  · rw [(h c).1, (hagree c).1, (hagree c).2.1, (hagree c).2.2.1, (hagree c).2.2.2]

/-- The named constants of the unmodified kernel stand for the words that it holds. -/
theorem preserves : Cert.preserves_Kernel_KernelIdeal :=
  ⟨IdealRules.named_const.statement Cert.KernelIdeal.κ "neg_log_base_div_half" .f32 _ _ rfl,
    IdealRules.named_const.statement Cert.KernelIdeal.κ "neg_log_two_pi" .f32 _ _ rfl,
    IdealRules.named_const.statement Cert.KernelIdeal.κ "sixth" .f32 _ _ rfl⟩

/-- The named constants of the kernel with the sine stand for the words that it holds. -/
theorem preserves_sine : Cert.preserves_KernelSine_KernelSineIdeal :=
  ⟨IdealRules.named_const.statement Cert.KernelSineIdeal.κ "neg_log_base_div_half" .f32 _ _ rfl,
    IdealRules.named_const.statement Cert.KernelSineIdeal.κ "neg_log_two_pi" .f32 _ _ rfl,
    IdealRules.named_const.statement Cert.KernelSineIdeal.κ "two_pi" .f32 _ _ rfl,
    IdealRules.named_const.statement Cert.KernelSineIdeal.κ "sixth" .f32 _ _ rfl⟩

/-- Every claim of the certificate. -/
theorem claim : Cert.Claim :=
  ⟨Cert.Kernel.Gen.facts, Cert.KernelIdeal.Gen.facts, Cert.ReferenceIdeal.Gen.facts, Cert.KernelSine.Gen.facts,
    Cert.KernelSineIdeal.Gen.facts, Cert.Pre_tables_finite.Gen.facts, Cert.Pre_no_overflow.Gen.facts,
    Cert.Post_within_tolerance.Gen.facts, Cert.On_sar_positions.Gen.facts,
    fun m ρ _ => Cert.Kernel.Gen.frame m ρ, fun m ρ _ => Cert.KernelIdeal.Gen.frame m ρ,
    fun m ρ _ => Cert.KernelIdeal.Gen.frame m ρ, fun m ρ _ => Cert.KernelIdeal.Gen.frame m ρ,
    reference_quiescent, fun m ρ _ => reference_quiescent m ρ trivial,
    fun m ρ _ => Cert.KernelSine.Gen.frame m ρ, fun m ρ _ => Cert.KernelSineIdeal.Gen.frame m ρ,
    fun m ρ _ => Cert.KernelSineIdeal.Gen.frame m ρ,
    preserves, equal_on_sar, close, preserves_sine, equal⟩

end Cert.Proof

end
